-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_sections_finite [hPre_unit_sections_finite : Cert.Pre_unit_sections_finite.Facts] (m : (ℓ : Loc Cert.KernelIdeal.nD Cert.KernelIdeal.τ Cert.KernelIdeal.sig) → Buf (Elt Ideal) ℓ) : Prop :=
  ∀ c : Dev Cert.KernelIdeal.nD,
    (Cert.Pre_unit_sections_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_unit_sections_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_unit_sections_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_unit_sections_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_unit_sections_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_unit_sections_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_unit_sections_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_unit_sections_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_sections_finite [hPre_unit_sections_finite : Cert.Pre_unit_sections_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_sections_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_unit_sections_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_unit_sections_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_unit_sections_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_unit_sections_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_unit_sections_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_unit_sections_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_unit_sections_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_unit_sections_finite [hKernelIdeal : Cert.KernelIdeal.Facts] [hPre_unit_sections_finite : Cert.Pre_unit_sections_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_sections_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_unit_sections_finite [hReferenceIdeal : Cert.ReferenceIdeal.Facts] [hPre_unit_sections_finite : Cert.Pre_unit_sections_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_sections_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_unit_sections_finite [hKernelIdeal : Cert.KernelIdeal.Facts] [hReferenceIdeal : Cert.ReferenceIdeal.Facts] [hPre_unit_sections_finite : Cert.Pre_unit_sections_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_sections_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_unit_sections_finite : Cert.Pre_unit_sections_finite.Facts),
    quiescent_Kernel (hKernel := hKernel)
    ∧ quiescent_KernelIdeal (hKernelIdeal := hKernelIdeal)
    ∧ quiescent_KernelIdeal_pre_unit_sections_finite (hKernelIdeal := hKernelIdeal) (hPre_unit_sections_finite := hPre_unit_sections_finite)
    ∧ quiescent_ReferenceIdeal (hReferenceIdeal := hReferenceIdeal)
    ∧ quiescent_ReferenceIdeal_pre_unit_sections_finite (hReferenceIdeal := hReferenceIdeal) (hPre_unit_sections_finite := hPre_unit_sections_finite)
    ∧ preserves_Kernel_KernelIdeal
    ∧ algebraic_KernelIdeal_ReferenceIdeal_pre_unit_sections_finite (hKernelIdeal := hKernelIdeal) (hReferenceIdeal := hReferenceIdeal) (hPre_unit_sections_finite := hPre_unit_sections_finite)
-- ==== Pre_unit_sections_finite.lean ====
abbrev S8192x128 : Shape := ⟨2, ![8192, 128]⟩
abbrev S100000x128 : Shape := ⟨2, ![100000, 128]⟩
abbrev S8192 : Shape := ⟨1, ![8192]⟩
abbrev S_ : Shape := ⟨0, ![]⟩
abbrev S128x128 : Shape := ⟨2, ![128, 128]⟩
abbrev S128 : Shape := ⟨1, ![128]⟩
abbrev S128x1 : Shape := ⟨2, ![128, 1]⟩
abbrev S1 : Shape := ⟨1, ![1]⟩
abbrev S256x128 : Shape := ⟨2, ![256, 128]⟩

class Facts : Prop where
  bcast_S_S8192 : S_.BroadcastsInDim S8192 (![] : Fin 0 → Fin S8192.rank)
  bcast_S_S8192x128 : S_.BroadcastsInDim S8192x128 (![] : Fin 0 → Fin S8192x128.rank)
  bcast_S_S128x128 : S_.BroadcastsInDim S128x128 (![] : Fin 0 → Fin S128x128.rank)
  bcast_S_S128x1 : S_.BroadcastsInDim S128x1 (![] : Fin 0 → Fin S128x1.rank)
  bcast_S_S1 : S_.BroadcastsInDim S1 (![] : Fin 0 → Fin S1.rank)
  slices_S256x128_S128x128_128_0 : S256x128.Slices ![128, 0] S128x128

variable [Facts]

def fn_part1 {F : FTy → Type} [FloatOps F] (main_arg13 : FVec F S256x128 .f32) (main_v1 : IVec S8192 1) (main_v4 : IVec S8192x128 1) (main_v7 : IVec S8192 1) (main_v10 : IVec S128x128 1) (main_v13 : IVec S128x128 1) (main_v16 : IVec S128x1 1) (main_v17 : FVec F S1 .f32) : IVec S8192 1 × IVec S8192x128 1 × IVec S8192 1 × IVec S128x128 1 × IVec S128x128 1 × IVec S128x1 1 × IVec S1 1 × IVec S128x128 1 :=
  let main_cst_4 : FVec F S_ .f32 := constant S_ .f32 0x7F800000#32
  let main_v18 : FVec F S1 .f32 := broadcastInDim S1 ![] bcast_S_S1 main_cst_4
  let main_v19 : IVec S1 1 := cmpf .olt main_v17 main_v18
  let main_v20 : FVec F S128x128 .f32 := (extractStridedSlice S128x128 ![128, 0] · slices_S256x128_S128x128_128_0) main_arg13
  let main_v21 : FVec F S128x128 .f32 := Host.absf main_v20
  let main_cst_5 : FVec F S_ .f32 := constant S_ .f32 0x7F800000#32
  let main_v22 : FVec F S128x128 .f32 := broadcastInDim S128x128 ![] bcast_S_S128x128 main_cst_5
  let main_v23 : IVec S128x128 1 := cmpf .olt main_v21 main_v22
  (main_v1, main_v4, main_v7, main_v10, main_v13, main_v16, main_v19, main_v23)

def fn {F : FTy → Type} [FloatOps F] (main_arg0 : FVec F S8192x128 .f32) (main_arg1 : FVec F S100000x128 .f32) (main_arg2 : IVec S8192 32) (main_arg3 : FVec F S8192 .f32) (main_arg4 : FVec F S8192x128 .f32) (main_arg5 : IVec S_ 32) (main_arg6 : FVec F S8192x128 .f32) (main_arg7 : FVec F S128x128 .f32) (main_arg8 : FVec F S128 .f32) (main_arg9 : FVec F S128x128 .f32) (main_arg10 : FVec F S128 .f32) (main_arg11 : FVec F S128x1 .f32) (main_arg12 : FVec F S1 .f32) (main_arg13 : FVec F S256x128 .f32) (main_arg14 : FVec F S128 .f32) : IVec S8192 1 × IVec S8192x128 1 × IVec S8192 1 × IVec S128x128 1 × IVec S128x128 1 × IVec S128x1 1 × IVec S1 1 × IVec S128x128 1 :=
  let main_c : IVec S_ 32 := constantI S_ 32 1#32
  let main_v0 : IVec S8192 32 := broadcastInDim S8192 ![] bcast_S_S8192 main_c
  let main_v1 : IVec S8192 1 := cmpi .eq main_arg2 main_v0
  let main_v2 : FVec F S8192x128 .f32 := Host.absf main_arg0
  let main_cst : FVec F S_ .f32 := constant S_ .f32 0x7F800000#32
  let main_v3 : FVec F S8192x128 .f32 := broadcastInDim S8192x128 ![] bcast_S_S8192x128 main_cst
  let main_v4 : IVec S8192x128 1 := cmpf .olt main_v2 main_v3
  let main_v5 : FVec F S8192 .f32 := Host.absf main_arg3
  let main_cst_0 : FVec F S_ .f32 := constant S_ .f32 0x7F800000#32
  let main_v6 : FVec F S8192 .f32 := broadcastInDim S8192 ![] bcast_S_S8192 main_cst_0
  let main_v7 : IVec S8192 1 := cmpf .olt main_v5 main_v6
  let main_v8 : FVec F S128x128 .f32 := Host.absf main_arg7
  let main_cst_1 : FVec F S_ .f32 := constant S_ .f32 0x7F800000#32
  let main_v9 : FVec F S128x128 .f32 := broadcastInDim S128x128 ![] bcast_S_S128x128 main_cst_1
  let main_v10 : IVec S128x128 1 := cmpf .olt main_v8 main_v9
  let main_v11 : FVec F S128x128 .f32 := Host.absf main_arg9
  let main_cst_2 : FVec F S_ .f32 := constant S_ .f32 0x7F800000#32
  let main_v12 : FVec F S128x128 .f32 := broadcastInDim S128x128 ![] bcast_S_S128x128 main_cst_2
  let main_v13 : IVec S128x128 1 := cmpf .olt main_v11 main_v12
  let main_v14 : FVec F S128x1 .f32 := Host.absf main_arg11
  let main_cst_3 : FVec F S_ .f32 := constant S_ .f32 0x7F800000#32
  let main_v15 : FVec F S128x1 .f32 := broadcastInDim S128x1 ![] bcast_S_S128x1 main_cst_3
  let main_v16 : IVec S128x1 1 := cmpf .olt main_v14 main_v15
  let main_v17 : FVec F S1 .f32 := Host.absf main_arg12
  fn_part1 (F := F) main_arg13 main_v1 main_v4 main_v7 main_v10 main_v13 main_v16 main_v17
-- ==== Kernel.lean ====
abbrev S8192x128 : Shape := ⟨2, ![8192, 128]⟩
abbrev S100000x128 : Shape := ⟨2, ![100000, 128]⟩
abbrev S8192 : Shape := ⟨1, ![8192]⟩
abbrev S_ : Shape := ⟨0, ![]⟩
abbrev S128x128 : Shape := ⟨2, ![128, 128]⟩
abbrev S128 : Shape := ⟨1, ![128]⟩
abbrev S128x1 : Shape := ⟨2, ![128, 1]⟩
abbrev S1 : Shape := ⟨1, ![1]⟩
abbrev S256x128 : Shape := ⟨2, ![256, 128]⟩
abbrev S4096x128 : Shape := ⟨2, ![4096, 128]⟩
abbrev S4096 : Shape := ⟨1, ![4096]⟩
abbrev S1x128 : Shape := ⟨2, ![1, 128]⟩
abbrev S1x128x1 : Shape := ⟨3, ![1, 128, 1]⟩
abbrev S1x1x1 : Shape := ⟨3, ![1, 1, 1]⟩
abbrev S1x1 : Shape := ⟨2, ![1, 1]⟩
abbrev S4096x1 : Shape := ⟨2, ![4096, 1]⟩

abbrev nBuf : Space → Nat
  | .hbm => 16
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S100000x128, .f32⟩
  | .hbm, ⟨2, _⟩ => ⟨S8192, .i32⟩
  | .hbm, ⟨3, _⟩ => ⟨S8192, .f32⟩
  | .hbm, ⟨4, _⟩ => ⟨S8192x128, .f32⟩
  | .hbm, ⟨5, _⟩ => ⟨S_, .i32⟩
  | .hbm, ⟨6, _⟩ => ⟨S8192x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S256x128, .f32⟩
  | .hbm, ⟨14, _⟩ => ⟨S128, .f32⟩
  | .hbm, ⟨15, _⟩ => ⟨S8192x128, .f32⟩
  | .local _ .vmem, ⟨0, _⟩ => ⟨S4096x128, .f32⟩
  | .local _ .vmem, ⟨1, _⟩ => ⟨S4096x128, .f32⟩
  | .local _ .vmem, ⟨2, _⟩ => ⟨S4096, .f32⟩
  | .local _ .vmem, ⟨3, _⟩ => ⟨S4096, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x1, .f32⟩
  | .local _ .vmem, ⟨9, _⟩ => ⟨S1, .f32⟩
  | .local _ .vmem, ⟨10, _⟩ => ⟨S256x128, .f32⟩
  | .local _ .vmem, ⟨11, _⟩ => ⟨S128, .f32⟩
  | .local _ .vmem, ⟨12, _⟩ => ⟨S4096x128, .f32⟩
  | .local _ .vmem, ⟨13, _⟩ => ⟨S4096x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x128 : Shape := ⟨2, ![8192, 128]⟩
abbrev S100000x128 : Shape := ⟨2, ![100000, 128]⟩
abbrev S8192 : Shape := ⟨1, ![8192]⟩
abbrev S_ : Shape := ⟨0, ![]⟩
abbrev S128x128 : Shape := ⟨2, ![128, 128]⟩
abbrev S128 : Shape := ⟨1, ![128]⟩
abbrev S128x1 : Shape := ⟨2, ![128, 1]⟩
abbrev S1 : Shape := ⟨1, ![1]⟩
abbrev S256x128 : Shape := ⟨2, ![256, 128]⟩
abbrev S8191 : Shape := ⟨1, ![8191]⟩
abbrev S8192x1 : Shape := ⟨2, ![8192, 1]⟩
abbrev S1x1 : Shape := ⟨2, ![1, 1]⟩
abbrev S1x128 : Shape := ⟨2, ![1, 128]⟩
abbrev S8192x256 : Shape := ⟨2, ![8192, 256]⟩

abbrev nBuf : Space → Nat
  | .hbm => 153
  | .vmem => 0
  | .smem => 0
  | _ => 0

abbrev hbmTy0_0 (i : Nat) : BufTy := match i % 128 with
  | 0 => ⟨S8192x128, .f32⟩
  | 1 => ⟨S100000x128, .f32⟩
  | 2 => ⟨S8192, .i32⟩
  | 3 => ⟨S8192, .f32⟩
  | 4 => ⟨S8192x128, .f32⟩
  | 5 => ⟨S_, .i32⟩
  | 6 => ⟨S8192x128, .f32⟩
  | 7 => ⟨S128x128, .f32⟩
  | 8 => ⟨S128, .f32⟩
  | 9 => ⟨S128x128, .f32⟩
  | 10 => ⟨S128, .f32⟩
  | 11 => ⟨S128x1, .f32⟩
  | 12 => ⟨S1, .f32⟩
  | 13 => ⟨S256x128, .f32⟩
  | 14 => ⟨S128, .f32⟩
  | 15 => ⟨S_, .i32⟩
  | 16 => ⟨S_, .i32⟩
  | 17 => ⟨S8192, .i32⟩
  | 18 => ⟨S_, .i32⟩
  | 19 => ⟨S8192, .i32⟩
  | 20 => ⟨S8192, .i32⟩
  | 21 => ⟨S8192, .i32⟩
  | 22 => ⟨S1, .i32⟩
  | 23 => ⟨S8191, .i32⟩
  | 24 => ⟨S8192, .i32⟩
  | 25 => ⟨S_, .i32⟩
  | 26 => ⟨S1, .i32⟩
  | 27 => ⟨S_, .i32⟩
  | 28 => ⟨S8192, .i32⟩
  | 29 => ⟨S_, .i32⟩
  | 30 => ⟨S_, .i32⟩
  | 31 => ⟨S8192, .i32⟩
  | 32 => ⟨S_, .i32⟩
  | 33 => ⟨S8192, .i32⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S8192x1, .i32⟩
  | 42 => ⟨S_, .i32⟩
  | 43 => ⟨S8192, .i32⟩
  | 44 => ⟨S8192, .i32⟩
  | 45 => ⟨S_, .i32⟩
  | 46 => ⟨S_, .i32⟩
  | 47 => ⟨S8192, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S1, .i32⟩
  | 60 => ⟨S_, .i32⟩
  | 61 => ⟨S8192x1, .i32⟩
  | 62 => ⟨S8192x1, .i1⟩
  | 63 => ⟨S1x1, .i32⟩
  | 64 => ⟨S8192x1, .i32⟩
  | 65 => ⟨S8192x1, .i1⟩
  | 66 => ⟨S8192x1, .i1⟩
  | 67 => ⟨S_, .i1⟩
  | 68 => ⟨S8192, .i1⟩
  | 69 => ⟨S8192, .i32⟩
  | 70 => ⟨S_, .i32⟩
  | 71 => ⟨S8192, .i32⟩
  | 72 => ⟨S8192, .i32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S8192x1, .i32⟩
  | 81 => ⟨S1, .i32⟩
  | 82 => ⟨S_, .i32⟩
  | 83 => ⟨S8192x1, .i32⟩
  | 84 => ⟨S8192x1, .i1⟩
  | 85 => ⟨S1x1, .i32⟩
  | 86 => ⟨S8192x1, .i32⟩
  | 87 => ⟨S8192x1, .i1⟩
  | 88 => ⟨S8192x1, .i1⟩
  | 89 => ⟨S_, .i1⟩
  | 90 => ⟨S8192, .i1⟩
  | 91 => ⟨S8192x128, .f32⟩
  | 92 => ⟨S8192x128, .i1⟩
  | 93 => ⟨S_, .f32⟩
  | 94 => ⟨S8192x128, .f32⟩
  | 95 => ⟨S8192x128, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S1, .i32⟩
  | 105 => ⟨S_, .i32⟩
  | 106 => ⟨S8192x1, .i32⟩
  | 107 => ⟨S8192x1, .i1⟩
  | 108 => ⟨S1x1, .i32⟩
  | 109 => ⟨S8192x1, .i32⟩
  | 110 => ⟨S8192x1, .i1⟩
  | 111 => ⟨S8192x1, .i1⟩
  | 112 => ⟨S_, .i1⟩
  | 113 => ⟨S8192, .i1⟩
  | 114 => ⟨S8192x128, .f32⟩
  | 115 => ⟨S8192x128, .i1⟩
  | 116 => ⟨S_, .f32⟩
  | 117 => ⟨S8192x128, .f32⟩
  | 118 => ⟨S8192x128, .f32⟩
  | 119 => ⟨S8192x128, .f32⟩
  | 120 => ⟨S1x128, .f32⟩
  | 121 => ⟨S8192x128, .f32⟩
  | 122 => ⟨S8192x128, .f32⟩
  | 123 => ⟨S8192x128, .f32⟩
  | 124 => ⟨S1x128, .f32⟩
  | 125 => ⟨S8192x128, .f32⟩
  | 126 => ⟨S8192x128, .f32⟩
  | 127 => ⟨S8192x128, .f32⟩
  | _ => ⟨S8192x128, .f32⟩

abbrev hbmTy0_1 (i : Nat) : BufTy := match i % 128 with
  | 0 => ⟨S8192x128, .f32⟩
  | 1 => ⟨S8192x128, .f32⟩
  | 2 => ⟨S_, .f32⟩
  | 3 => ⟨S8192x128, .f32⟩
  | 4 => ⟨S8192x128, .f32⟩
  | 5 => ⟨S_, .f32⟩
  | 6 => ⟨S8192x128, .f32⟩
  | 7 => ⟨S8192x128, .f32⟩
  | 8 => ⟨S8192x1, .f32⟩
  | 9 => ⟨S1x1, .f32⟩
  | 10 => ⟨S8192x1, .f32⟩
  | 11 => ⟨S8192x1, .f32⟩
  | 12 => ⟨S8192x1, .f32⟩
  | 13 => ⟨S8192x1, .f32⟩
  | 14 => ⟨S8192x128, .f32⟩
  | 15 => ⟨S8192x128, .f32⟩
  | 16 => ⟨S_, .f32⟩
  | 17 => ⟨S8192x128, .f32⟩
  | 18 => ⟨S8192x1, .i32⟩
  | 19 => ⟨S8192x128, .f32⟩
  | 20 => ⟨S8192x256, .f32⟩
  | 21 => ⟨S8192x128, .f32⟩
  | 22 => ⟨S1x128, .f32⟩
  | 23 => ⟨S8192x128, .f32⟩
  | 24 => ⟨S8192x128, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_call0_c : Ref sig .tc := ⟨.hbm, 15, rfl⟩
abbrev main_call0_call0_v0 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call1_v0 : Ref sig .tc := ⟨.hbm, 22, rfl⟩
abbrev main_call1_v1 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_c_1 : Ref sig .tc := ⟨.hbm, 27, rfl⟩
abbrev main_v6 : Ref sig .tc := ⟨.hbm, 28, rfl⟩
abbrev main_call2_call0_c : Ref sig .tc := ⟨.hbm, 29, rfl⟩
abbrev main_call2_call0_v0 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_c_3 : Ref sig .tc := ⟨.hbm, 34, rfl⟩
abbrev main_v9 : Ref sig .tc := ⟨.hbm, 35, rfl⟩
abbrev main_v10 : Ref sig .tc := ⟨.hbm, 36, rfl⟩
abbrev main_c_4 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_5 : Ref sig .tc := ⟨.hbm, 42, rfl⟩
abbrev main_v15 : Ref sig .tc := ⟨.hbm, 43, rfl⟩
abbrev main_v16 : Ref sig .tc := ⟨.hbm, 44, rfl⟩
abbrev main_call3_call0_c : Ref sig .tc := ⟨.hbm, 45, rfl⟩
abbrev main_call3_call0_v0 : Ref sig .tc := ⟨.hbm, 46, rfl⟩
abbrev main_v17 : Ref sig .tc := ⟨.hbm, 47, rfl⟩
abbrev main_c_6 : Ref sig .tc := ⟨.hbm, 48, rfl⟩
abbrev main_v18 : Ref sig .tc := ⟨.hbm, 49, rfl⟩
abbrev main_v19 : Ref sig .tc := ⟨.hbm, 50, rfl⟩
abbrev main_call4_c : Ref sig .tc := ⟨.hbm, 51, rfl⟩
abbrev main_call4_v0 : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_v5 : Ref sig .tc := ⟨.hbm, 58, rfl⟩
abbrev main_call4_c_1 : Ref sig .tc := ⟨.hbm, 59, rfl⟩
abbrev main_call4_c_2 : Ref sig .tc := ⟨.hbm, 60, rfl⟩
abbrev main_call4_v6 : Ref sig .tc := ⟨.hbm, 61, rfl⟩
abbrev main_call4_v7 : Ref sig .tc := ⟨.hbm, 62, rfl⟩
abbrev main_call4_v8 : Ref sig .tc := ⟨.hbm, 63, rfl⟩
abbrev main_call4_v9 : Ref sig .tc := ⟨.hbm, 64, rfl⟩
abbrev main_call4_v10 : Ref sig .tc := ⟨.hbm, 65, rfl⟩
abbrev main_call4_v11 : Ref sig .tc := ⟨.hbm, 66, rfl⟩
abbrev main_call4_c_3 : Ref sig .tc := ⟨.hbm, 67, rfl⟩
abbrev main_call4_v12 : Ref sig .tc := ⟨.hbm, 68, rfl⟩
abbrev main_call4_v13 : Ref sig .tc := ⟨.hbm, 69, rfl⟩
abbrev main_call4_c_4 : Ref sig .tc := ⟨.hbm, 70, rfl⟩
abbrev main_call4_v14 : Ref sig .tc := ⟨.hbm, 71, rfl⟩
abbrev main_v20 : Ref sig .tc := ⟨.hbm, 72, rfl⟩
abbrev main_call5_c : Ref sig .tc := ⟨.hbm, 73, rfl⟩
abbrev main_call5_v0 : Ref sig .tc := ⟨.hbm, 74, rfl⟩
abbrev main_call5_v1 : Ref sig .tc := ⟨.hbm, 75, rfl⟩
abbrev main_call5_c_0 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_call5_v5 : Ref sig .tc := ⟨.hbm, 80, rfl⟩
abbrev main_call5_c_1 : Ref sig .tc := ⟨.hbm, 81, rfl⟩
abbrev main_call5_c_2 : Ref sig .tc := ⟨.hbm, 82, rfl⟩
abbrev main_call5_v6 : Ref sig .tc := ⟨.hbm, 83, rfl⟩
abbrev main_call5_v7 : Ref sig .tc := ⟨.hbm, 84, rfl⟩
abbrev main_call5_v8 : Ref sig .tc := ⟨.hbm, 85, rfl⟩
abbrev main_call5_v9 : Ref sig .tc := ⟨.hbm, 86, rfl⟩
abbrev main_call5_v10 : Ref sig .tc := ⟨.hbm, 87, rfl⟩
abbrev main_call5_v11 : Ref sig .tc := ⟨.hbm, 88, rfl⟩
abbrev main_call5_c_3 : Ref sig .tc := ⟨.hbm, 89, rfl⟩
abbrev main_call5_v12 : Ref sig .tc := ⟨.hbm, 90, rfl⟩
abbrev main_call5_v13 : Ref sig .tc := ⟨.hbm, 91, rfl⟩
abbrev main_call5_v14 : Ref sig .tc := ⟨.hbm, 92, rfl⟩
abbrev main_call5_cst : Ref sig .tc := ⟨.hbm, 93, rfl⟩
abbrev main_call5_v15 : Ref sig .tc := ⟨.hbm, 94, rfl⟩
abbrev main_v21 : Ref sig .tc := ⟨.hbm, 95, rfl⟩
abbrev main_call6_c : Ref sig .tc := ⟨.hbm, 96, rfl⟩
abbrev main_call6_v0 : Ref sig .tc := ⟨.hbm, 97, rfl⟩
abbrev main_call6_v1 : Ref sig .tc := ⟨.hbm, 98, rfl⟩
abbrev main_call6_c_0 : Ref sig .tc := ⟨.hbm, 99, rfl⟩
abbrev main_call6_v2 : Ref sig .tc := ⟨.hbm, 100, rfl⟩
abbrev main_call6_v3 : Ref sig .tc := ⟨.hbm, 101, rfl⟩
abbrev main_call6_v4 : Ref sig .tc := ⟨.hbm, 102, rfl⟩
abbrev main_call6_v5 : Ref sig .tc := ⟨.hbm, 103, rfl⟩
abbrev main_call6_c_1 : Ref sig .tc := ⟨.hbm, 104, rfl⟩
abbrev main_call6_c_2 : Ref sig .tc := ⟨.hbm, 105, rfl⟩
abbrev main_call6_v6 : Ref sig .tc := ⟨.hbm, 106, rfl⟩
abbrev main_call6_v7 : Ref sig .tc := ⟨.hbm, 107, rfl⟩
abbrev main_call6_v8 : Ref sig .tc := ⟨.hbm, 108, rfl⟩
abbrev main_call6_v9 : Ref sig .tc := ⟨.hbm, 109, rfl⟩
abbrev main_call6_v10 : Ref sig .tc := ⟨.hbm, 110, rfl⟩
abbrev main_call6_v11 : Ref sig .tc := ⟨.hbm, 111, rfl⟩
abbrev main_call6_c_3 : Ref sig .tc := ⟨.hbm, 112, rfl⟩
abbrev main_call6_v12 : Ref sig .tc := ⟨.hbm, 113, rfl⟩
abbrev main_call6_v13 : Ref sig .tc := ⟨.hbm, 114, rfl⟩
abbrev main_call6_v14 : Ref sig .tc := ⟨.hbm, 115, rfl⟩
abbrev main_call6_cst : Ref sig .tc := ⟨.hbm, 116, rfl⟩
abbrev main_call6_v15 : Ref sig .tc := ⟨.hbm, 117, rfl⟩
abbrev main_v22 : Ref sig .tc := ⟨.hbm, 118, rfl⟩
abbrev main_v23 : Ref sig .tc := ⟨.hbm, 119, rfl⟩
abbrev main_v24 : Ref sig .tc := ⟨.hbm, 120, rfl⟩
abbrev main_v25 : Ref sig .tc := ⟨.hbm, 121, rfl⟩
abbrev main_v26 : Ref sig .tc := ⟨.hbm, 122, rfl⟩
abbrev main_v27 : Ref sig .tc := ⟨.hbm, 123, rfl⟩
abbrev main_v28 : Ref sig .tc := ⟨.hbm, 124, rfl⟩
abbrev main_v29 : Ref sig .tc := ⟨.hbm, 125, rfl⟩
abbrev main_v30 : Ref sig .tc := ⟨.hbm, 126, rfl⟩
abbrev main_v31 : Ref sig .tc := ⟨.hbm, 127, rfl⟩
abbrev main_v32 : Ref sig .tc := ⟨.hbm, 128, rfl⟩
abbrev main_v33 : Ref sig .tc := ⟨.hbm, 129, rfl⟩
abbrev main_cst : Ref sig .tc := ⟨.hbm, 130, rfl⟩
abbrev main_v34 : Ref sig .tc := ⟨.hbm, 131, rfl⟩
abbrev main_v35 : Ref sig .tc := ⟨.hbm, 132, rfl⟩
abbrev main_cst_7 : Ref sig .tc := ⟨.hbm, 133, rfl⟩
abbrev main_v36 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩
abbrev main_v44 : Ref sig .tc := ⟨.hbm, 142, rfl⟩
abbrev main_v45 : Ref sig .tc := ⟨.hbm, 143, rfl⟩
abbrev main_cst_8 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_v49 : Ref sig .tc := ⟨.hbm, 148, rfl⟩
abbrev main_v50 : Ref sig .tc := ⟨.hbm, 149, rfl⟩
abbrev main_v51 : Ref sig .tc := ⟨.hbm, 150, rfl⟩
abbrev main_v52 : Ref sig .tc := ⟨.hbm, 151, rfl⟩
abbrev main_v53 : Ref sig .tc := ⟨.hbm, 152, rfl⟩

abbrev nD : Nat := 1
abbrev τ : Topo := Topo.v7x

variable {F : FTy → Type} [FloatOps F]
-- ==== Proof.RowMath.lean ====
/- The mathematics of one row of the fused layer, over the extended reals and apart from any program.
   `kernelPre`, `kernelGate`, `kernelRow` and their `reference` counterparts name the numbers that the two programs compute at one row and one output column;
   `kernelRow_eq` proves the two rows equal where the factors that are moved across sums are finite. -/
module

public import Idealize.ShloMosaic.PureOps.Ideal

@[expose] public section

noncomputable section

namespace Cert.RowMath

open Idealize.ShloMosaic

/-- The extended real one half. -/
abbrev half : EReal := ((1 / 2 : ℝ) : EReal)

/-- A value that is neither of the two infinities. -/
def Finite (a : EReal) : Prop := ∃ r : ℝ, a = (r : EReal)

/-! ## The kernel's row -/

/-- The argument of the kernel's hyperbolic tangent: half the sum of both affine maps, with the weights and the biases added first. -/
def kernelPre (x : Fin 128 → EReal) (W1 W2 : Fin 128 → Fin 128 → EReal) (b1 b2 : Fin 128 → EReal) (k : Fin 128) : EReal :=
  (∑ l, x l * (half * (W1 l k + W2 l k))) + half * (b1 k + b2 k)

/-- The kernel's attention weight: half the product of the tangents with `q`, plus half the sum of `q`, plus the bias. -/
def kernelGate (x : Fin 128 → EReal) (W1 W2 : Fin 128 → Fin 128 → EReal) (b1 b2 q : Fin 128 → EReal) (qb : EReal) : EReal :=
  half * (∑ k, Ideal.tanh (kernelPre x W1 W2 b1 b2 k) * q k) + (half * (∑ k, q k) + qb)

/-- One entry of the kernel's result: the row times the upper half of the last weights, plus the scaled gate times the row's product
    with the lower half, plus the bias. -/
def kernelRow (x : Fin 128 → EReal) (nc : EReal) (W1 W2 : Fin 128 → Fin 128 → EReal) (b1 b2 q : Fin 128 → EReal) (qb : EReal)
    (top bot : Fin 128 → EReal) (b3 : EReal) : EReal :=
  ((∑ k, x k * top k) + nc * kernelGate x W1 W2 b1 b2 q qb * (∑ k, x k * bot k)) + b3

/-! ## The reference's row -/

/-- The argument of the reference's sigmoid: the sum of the two affine maps. -/
def referencePre (x : Fin 128 → EReal) (W1 W2 : Fin 128 → Fin 128 → EReal) (b1 b2 : Fin 128 → EReal) (k : Fin 128) : EReal :=
  ((∑ l, x l * W1 l k) + b1 k) + ((∑ l, x l * W2 l k) + b2 k)

/-- The reference's attention weight: the sigmoids times `q`, plus the bias. -/
def referenceGate (x : Fin 128 → EReal) (W1 W2 : Fin 128 → Fin 128 → EReal) (b1 b2 q : Fin 128 → EReal) (qb : EReal) : EReal :=
  (∑ k, Ideal.logistic (referencePre x W1 W2 b1 b2 k) * q k) + qb

/-- One entry of the reference's result: the row times the upper half of the last weights, plus the weighted row times the lower half,
    plus the bias. -/
def referenceRow (x : Fin 128 → EReal) (nc : EReal) (W1 W2 : Fin 128 → Fin 128 → EReal) (b1 b2 q : Fin 128 → EReal) (qb : EReal)
    (top bot : Fin 128 → EReal) (b3 : EReal) : EReal :=
  ((∑ k, x k * top k) + ∑ k, nc * referenceGate x W1 W2 b1 b2 q qb * x k * bot k) + b3

/-! ## Finite sums of products of reals -/

/-- A sum of real numbers is the same read in the extended reals. -/
theorem coe_sum {n : Nat} (f : Fin n → ℝ) : (∑ k, (f k : EReal)) = ((∑ k, f k : ℝ) : EReal) :=
  (map_sum (⟨⟨fun r : ℝ => (r : EReal), EReal.coe_zero⟩, EReal.coe_add⟩ : ℝ →+ EReal) f Finset.univ).symm

/-- A sum of products of real numbers is the same read in the extended reals. -/
theorem coe_sum_mul {n : Nat} (f g : Fin n → ℝ) : (∑ k, (f k : EReal) * (g k : EReal)) = ((∑ k, f k * g k : ℝ) : EReal) := by
  rw [← coe_sum]
  exact Finset.sum_congr rfl fun k _ => (EReal.coe_mul _ _).symm

/-! ## The sigmoid as a hyperbolic tangent -/

/-- For a real `r`, `1 / (1 + exp (-r))` is half of `tanh (r / 2)`, plus a half. -/
theorem sigmoid_eq_tanh (r : ℝ) : (1 + Real.exp (-r))⁻¹ = 1 / 2 * Real.tanh (1 / 2 * r) + 1 / 2 := by
  have hp : 0 < Real.exp (1 / 2 * r) := Real.exp_pos _
  have hr : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, hr, Real.exp_neg]
  have h2 : Real.exp (1 / 2 * r) * Real.exp (1 / 2 * r) + 1 ≠ 0 := by positivity
  field_simp
  ring

/-- At every extended real `s` the tangent of half of `s` is a real `t`, and the sigmoid of `s` is the real `t / 2 + 1 / 2`. -/
theorem logistic_eq_tanh (s : EReal) : ∃ t : ℝ, Ideal.tanh (half * s) = (t : EReal) ∧ Ideal.logistic s = ((1 / 2 * t + 1 / 2 : ℝ) : EReal) := by
  induction s with
  | bot =>
    refine ⟨-1, ?_, ?_⟩
    · rw [EReal.coe_mul_bot_of_pos (by norm_num), Ideal.tanh_bot]; simp
    · rw [Ideal.logistic_bot]; norm_num
  | top =>
    refine ⟨1, ?_, ?_⟩
    · rw [EReal.coe_mul_top_of_pos (by norm_num), Ideal.tanh_top]; simp
    · rw [Ideal.logistic_top]; norm_num
  | coe r =>
    refine ⟨Real.tanh (1 / 2 * r), ?_, ?_⟩
    · rw [← EReal.coe_mul, Ideal.tanh_coe]
    · rw [Ideal.logistic_coe, sigmoid_eq_tanh]

/-- Multiplying a sum of extended reals by one half multiplies each summand, whatever they are. -/
theorem half_mul_add (a b : EReal) : half * (a + b) = half * a + half * b :=
  EReal.left_distrib_of_nonneg_of_ne_top (EReal.coe_nonneg.2 (by norm_num)) (EReal.coe_ne_top _) a b

/-! ## The two rows are equal -/

/-- With a finite row and finite weights the kernel's tangent reads half the argument of the reference's sigmoid; the biases may be infinite. -/
theorem kernelPre_eq {x : Fin 128 → EReal} {W1 W2 : Fin 128 → Fin 128 → EReal} (b1 b2 : Fin 128 → EReal) (hx : ∀ l, Finite (x l))
    (h1 : ∀ l k, Finite (W1 l k)) (h2 : ∀ l k, Finite (W2 l k)) (k : Fin 128) :
    kernelPre x W1 W2 b1 b2 k = half * referencePre x W1 W2 b1 b2 k := by
  choose xr hx using hx
  choose w1 h1 using h1
  choose w2 h2 using h2
  have e1 : (∑ l, x l * W1 l k) = ((∑ l, xr l * w1 l k : ℝ) : EReal) := by simp only [hx, h1]; exact coe_sum_mul _ _
  have e2 : (∑ l, x l * W2 l k) = ((∑ l, xr l * w2 l k : ℝ) : EReal) := by simp only [hx, h2]; exact coe_sum_mul _ _
  have e : (∑ l, x l * (half * (W1 l k + W2 l k))) = half * (((∑ l, xr l * w1 l k : ℝ) : EReal) + ((∑ l, xr l * w2 l k : ℝ) : EReal)) := by
    simp only [hx, h1, h2]
    rw [← EReal.coe_add, ← EReal.coe_mul, ← Finset.sum_add_distrib, Finset.mul_sum, ← coe_sum]
    refine Finset.sum_congr rfl fun l _ => ?_
    rw [← EReal.coe_add, ← EReal.coe_mul, ← EReal.coe_mul]
    congr 1; ring
  unfold kernelPre referencePre
  rw [e, e1, e2, ← half_mul_add, add_add_add_comm]

/-- With `q` finite as well, both programs compute one attention weight. -/
theorem kernelGate_eq {x : Fin 128 → EReal} {W1 W2 : Fin 128 → Fin 128 → EReal} (b1 b2 : Fin 128 → EReal) {q : Fin 128 → EReal} (qb : EReal)
    (hx : ∀ l, Finite (x l)) (h1 : ∀ l k, Finite (W1 l k)) (h2 : ∀ l k, Finite (W2 l k)) (hq : ∀ k, Finite (q k)) :
    kernelGate x W1 W2 b1 b2 q qb = referenceGate x W1 W2 b1 b2 q qb := by
  choose qr hq using hq
  choose t ht hs using fun k => logistic_eq_tanh (referencePre x W1 W2 b1 b2 k)
  unfold kernelGate referenceGate
  simp only [kernelPre_eq b1 b2 hx h1 h2, ht, hs, hq]
  rw [coe_sum_mul, coe_sum_mul, coe_sum, ← add_assoc, ← EReal.coe_mul, ← EReal.coe_mul, ← EReal.coe_add, Finset.mul_sum, Finset.mul_sum,
    ← Finset.sum_add_distrib]
  exact congrArg (fun s : ℝ => (s : EReal) + qb) (Finset.sum_congr rfl fun k _ => by ring)

/-- The reference's attention weight is finite where `q` and its bias are: a sigmoid is finite at every argument. -/
theorem referenceGate_finite (x : Fin 128 → EReal) (W1 W2 : Fin 128 → Fin 128 → EReal) (b1 b2 : Fin 128 → EReal) {q : Fin 128 → EReal} {qb : EReal}
    (hq : ∀ k, Finite (q k)) (hqb : Finite qb) : Finite (referenceGate x W1 W2 b1 b2 q qb) := by
  choose qr hq using hq
  obtain ⟨qbr, rfl⟩ := hqb
  choose t ht hs using fun k => logistic_eq_tanh (referencePre x W1 W2 b1 b2 k)
  unfold referenceGate
  simp only [hs, hq]
  rw [coe_sum_mul, ← EReal.coe_add]
  exact ⟨_, rfl⟩

/-- A finite factor moves into a sum of products of finite values. -/
theorem mul_sum_mul {c : EReal} {x w : Fin 128 → EReal} (hc : Finite c) (hx : ∀ k, Finite (x k)) (hw : ∀ k, Finite (w k)) :
    c * (∑ k, x k * w k) = ∑ k, c * x k * w k := by
  obtain ⟨cr, rfl⟩ := hc
  choose xr hx using hx
  choose wr hw using hw
  simp only [hx, hw]
  rw [coe_sum_mul, ← EReal.coe_mul, Finset.mul_sum, ← coe_sum]
  refine Finset.sum_congr rfl fun k _ => ?_
  rw [← EReal.coe_mul, ← EReal.coe_mul]
  congr 1; ring

/-- The product of two finite values is finite. -/
theorem Finite.mul {a b : EReal} (ha : Finite a) (hb : Finite b) : Finite (a * b) := by
  obtain ⟨r, rfl⟩ := ha
  obtain ⟨s, rfl⟩ := hb
  exact ⟨r * s, (EReal.coe_mul r s).symm⟩

/-- The two rows agree where the row, its count, the attention weights, `q` with its bias and the lower half of the last weights are finite.
    The biases `b1`, `b2`, `b3` and the upper half of the last weights are unrestricted. -/
theorem kernelRow_eq {x : Fin 128 → EReal} {nc : EReal} {W1 W2 : Fin 128 → Fin 128 → EReal} (b1 b2 : Fin 128 → EReal) {q : Fin 128 → EReal} {qb : EReal}
    (top : Fin 128 → EReal) {bot : Fin 128 → EReal} (b3 : EReal) (hx : ∀ l, Finite (x l)) (hnc : Finite nc) (h1 : ∀ l k, Finite (W1 l k))
    (h2 : ∀ l k, Finite (W2 l k)) (hq : ∀ k, Finite (q k)) (hqb : Finite qb) (hbot : ∀ k, Finite (bot k)) :
    kernelRow x nc W1 W2 b1 b2 q qb top bot b3 = referenceRow x nc W1 W2 b1 b2 q qb top bot b3 := by
  unfold kernelRow referenceRow
  rw [kernelGate_eq b1 b2 qb hx h1 h2 hq, mul_sum_mul (hnc.mul (referenceGate_finite x W1 W2 b1 b2 hq hqb)) hx hbot]

end Cert.RowMath

end
-- ==== Proof.Inputs.lean ====
/- What the precondition says of the argument arrays: the segment lengths are one, and the listed arrays hold no infinity
   (`Known`, `known`). -/
module

public import proofs.«01_k».proof.Pre_unit_sections_finite
public import proofs.«01_k».proof.Proof.RowMath
public import Idealize.ShloMosaic.PureOps.Ideal.Laws
public import Idealize.ShloMosaic.Lib.ValueIdx

@[expose] public section

noncomputable section

namespace Cert.Inputs

open Cert.Pre_unit_sections_finite Idealize.ShloMosaic Idealize.ShloMosaic.ValueIdx Cert.RowMath

/-- The side conditions of the precondition's operations. -/
theorem facts : Facts where
  bcast_S_S8192 := by decide
  bcast_S_S8192x128 := by decide
  bcast_S_S128x128 := by decide
  bcast_S_S128x1 := by decide
  bcast_S_S1 := by decide
  slices_S256x128_S128x128_128_0 := by decide

/-- The f32 word of positive infinity is the greatest extended real. -/
theorem top_word : Ideal.ofBits .f32 0x7F800000#32 = ⊤ := by
  simp [Ideal.ofBits, Ideal.ieee]

/-- An extended real whose absolute value is below infinity is finite. -/
theorem finite_of_abs_lt {a : EReal} (h : max a (-a) < ⊤) : Finite a := by
  have h1 : a ≠ ⊤ := fun e => by rw [e] at h; exact absurd h (by simp)
  have h2 : a ≠ ⊥ := fun e => by rw [e] at h; exact absurd h (by simp)
  exact ⟨a.toReal, (EReal.coe_toReal h1 h2).symm⟩

/-- Where the comparison of an absolute value with infinity holds, the entry is finite. -/
theorem finite_of_compare {s : Shape} (x top : FVec Ideal s .f32) (ht : ∀ i, top i = Ideal.ofBits .f32 0x7F800000#32)
    (h : cmpf .olt (Host.absf x) top = fun _ => 1#1) (i : s.Idx) : Finite (x i) := by
  have e : (FloatOps.cmpf (F := Ideal) CmpFPredicate.olt (FloatOps.absf (x i)) (top i) : BitVec 1) = 1#1 := congrFun h i
  rw [ht, top_word, Ideal.cmpf_def, Ideal.absf_def] at e
  refine finite_of_abs_lt ?_
  by_contra hn
  simp [Ideal.cmp, hn] at e

/-- What the precondition says of the argument arrays that it reads. -/
structure Known (x0 : FVec Ideal S8192x128 .f32) (x2 : IVec S8192 32) (x3 : FVec Ideal S8192 .f32) (x7 x9 : FVec Ideal S128x128 .f32)
    (x11 : FVec Ideal S128x1 .f32) (x12 : FVec Ideal S1 .f32) (x13 : FVec Ideal S256x128 .f32) : Prop where
  /-- Every segment has one node. -/
  lengths : ∀ i, x2 i = 1#32
  /-- The features are finite. -/
  features : ∀ i, Finite (x0 i)
  /-- The node counts are finite. -/
  counts : ∀ i, Finite (x3 i)
  /-- The first weights are finite. -/
  first : ∀ i, Finite (x7 i)
  /-- The second weights are finite. -/
  second : ∀ i, Finite (x9 i)
  /-- The attention vector is finite. -/
  vector : ∀ i, Finite (x11 i)
  /-- The attention bias is finite. -/
  bias : ∀ i, Finite (x12 i)
  /-- The lower half of the last weights is finite. -/
  lower : ∀ k j : Fin 128, Finite (x13 (ix2 (⟨128 + k.val, by omega⟩ : Fin 256) j))

variable [Facts] {x0 : FVec Ideal S8192x128 .f32} {x1 : FVec Ideal S100000x128 .f32} {x2 : IVec S8192 32} {x3 : FVec Ideal S8192 .f32}
  {x4 : FVec Ideal S8192x128 .f32} {x5 : IVec S_ 32} {x6 : FVec Ideal S8192x128 .f32} {x7 : FVec Ideal S128x128 .f32} {x8 : FVec Ideal S128 .f32}
  {x9 : FVec Ideal S128x128 .f32} {x10 : FVec Ideal S128 .f32} {x11 : FVec Ideal S128x1 .f32} {x12 : FVec Ideal S1 .f32}
  {x13 : FVec Ideal S256x128 .f32} {x14 : FVec Ideal S128 .f32}

/-- The eight truth arrays of the precondition, all ones, read as statements about the entries. -/
theorem known (h : (fn x0 x1 x2 x3 x4 x5 x6 x7 x8 x9 x10 x11 x12 x13 x14).1 = (fun _ => 1#1)
      ∧ (fn x0 x1 x2 x3 x4 x5 x6 x7 x8 x9 x10 x11 x12 x13 x14).2.1 = (fun _ => 1#1)
      ∧ (fn x0 x1 x2 x3 x4 x5 x6 x7 x8 x9 x10 x11 x12 x13 x14).2.2.1 = (fun _ => 1#1)
      ∧ (fn x0 x1 x2 x3 x4 x5 x6 x7 x8 x9 x10 x11 x12 x13 x14).2.2.2.1 = (fun _ => 1#1)
      ∧ (fn x0 x1 x2 x3 x4 x5 x6 x7 x8 x9 x10 x11 x12 x13 x14).2.2.2.2.1 = (fun _ => 1#1)
      ∧ (fn x0 x1 x2 x3 x4 x5 x6 x7 x8 x9 x10 x11 x12 x13 x14).2.2.2.2.2.1 = (fun _ => 1#1)
      ∧ (fn x0 x1 x2 x3 x4 x5 x6 x7 x8 x9 x10 x11 x12 x13 x14).2.2.2.2.2.2.1 = (fun _ => 1#1)
      ∧ (fn x0 x1 x2 x3 x4 x5 x6 x7 x8 x9 x10 x11 x12 x13 x14).2.2.2.2.2.2.2 = (fun _ => 1#1)) :
    Known x0 x2 x3 x7 x9 x11 x12 x13 := by
  obtain ⟨h1, h2, h3, h4, h5, h6, h7, h8⟩ := h
  refine ⟨fun i => ?_, finite_of_compare x0 _ (fun _ => rfl) h2, finite_of_compare x3 _ (fun _ => rfl) h3,
    finite_of_compare x7 _ (fun _ => rfl) h4, finite_of_compare x9 _ (fun _ => rfl) h5, finite_of_compare x11 _ (fun _ => rfl) h6,
    finite_of_compare x12 _ (fun _ => rfl) h7, fun k j => ?_⟩
  · have e : BitVec.ofBool (x2 i == 1#32) = 1#1 := congrFun h1 i
    by_contra hn
    rw [beq_false_of_ne hn] at e
    exact absurd e (by decide)
  · have h : cmpf .olt (Host.absf (extractStridedSlice S128x128 ![128, 0] x13 Facts.slices_S256x128_S128x128_128_0))
        (broadcastInDim S128x128 ![] Facts.bcast_S_S128x128 (constant (F := Ideal) S_ .f32 0x7F800000#32)) = fun _ => 1#1 := h8
    have e := finite_of_compare _ _ (fun _ => rfl) h (ix2 k j)
    refine (congrArg (fun i => Finite (x13 i)) (funext fun a => Fin.ext ?_)).mp e
    match a with
    | ⟨0, _⟩ => rfl
    | ⟨1, _⟩ => exact Nat.zero_add _

end Cert.Inputs

end
-- ==== Proof.Segments.lean ====
/- The integer part of the reference where every segment has one node. The reference turns the section sizes into the position of each
   segment's last node (a running sum less one) and into the segment number of each node (a histogram of the segments' starts, summed again).
   With every size one, both are the identity: entry `i` is `i` (`lastNode_eq`, `segment_eq`). So the rows taken at them are the
   table's own rows (`taken_eq`, `repeated_eq`). -/
module

public import proofs.«01_k».proof.Proof.Gen.ReferenceIdeal.Read
public import Idealize.ShloMosaic.Lib.Routing.Ops
public import Idealize.ShloMosaic.Lib.Routing.OpsOne
public import Idealize.ShloMosaic.Lib.Routing.OpsSet
public import Idealize.ShloMosaic.Lib.Routing.OpsPair
public import Idealize.ShloMosaic.Lib.ReduceAll

@[expose] public section

noncomputable section

namespace Cert.Segments

open Cert.ReferenceIdeal Cert.ReferenceIdeal.Gen Cert.ReferenceIdeal.Read Idealize.ShloMosaic Idealize.ShloMosaic.ValueIdx Idealize.ShloMosaic.Routing

variable {F : FTy → Type} [FloatOps F]

/-! ## A position below the table's length -/

/-- A sum of ones less one: the word of `n + 1` minus the word of 1 is the word of `n`. -/
theorem succ_sub_one (n : Nat) : IntOp.subi (BitVec.ofNat 32 (n + 1)) 1#32 = BitVec.ofNat 32 n := by
  show BitVec.ofNat 32 (n + 1) - BitVec.ofNat 32 1 = BitVec.ofNat 32 n
  rw [BitVec.ofNat_add, BitVec.add_sub_cancel]

/-- A position below 8192 is not negative, so it is not moved by the wrap of negative indices. -/
theorem wrap_small (n : Nat) (h : n < 8192) (a : BitVec 32) :
    Scalar.select (IntOp.cmpi .slt (BitVec.ofNat 32 n) 0#32) a (BitVec.ofNat 32 n) = BitVec.ofNat 32 n :=
  wrap_of_lt _ _ (by rw [BitVec.toNat_ofNat]; omega)

/-- A position below 8192 lies between 0 and 8191. -/
theorem range_small (n : Nat) (h : n < 8192) :
    IntOp.andi (IntOp.cmpi .sge (BitVec.ofNat 32 n) 0#32) (IntOp.cmpi .sle (BitVec.ofNat 32 n) 8191#32) = 1#1 := by
  have h0 : (BitVec.ofNat 32 n).toInt = n := StableHlo.Predicate.toInt_ofNat_small n (by omega)
  have e1 : IntOp.cmpi .sge (BitVec.ofNat 32 n) 0#32 = 1#1 := by
    show BitVec.ofBool ((0#32).sle (BitVec.ofNat 32 n)) = 1#1
    exact (StableHlo.Predicate.sle_ofNat_iff 0 n (by omega) (by omega)).2 (by omega)
  have e2 : IntOp.cmpi .sle (BitVec.ofNat 32 n) 8191#32 = 1#1 := by
    show BitVec.ofBool ((BitVec.ofNat 32 n).sle (8191#32)) = 1#1
    exact (StableHlo.Predicate.sle_ofNat_iff n 8191 (by omega) (by omega)).2 (by omega)
  rw [e1, e2]; rfl

/-- A sum of ones over the first `n` numbers is `n`. -/
theorem sum_ones (n : Nat) : ((List.range n).map fun _ => 1).sum = n := by
  induction n with
  | zero => rfl
  | succ n ih => rw [List.range_succ, List.map_append, List.sum_append, ih]; rfl

/-- A sum of ones over the first `n + 1` numbers, the first counted zero, is `n`. -/
theorem sum_ones_but_first (n : Nat) : ((List.range (n + 1)).map fun i => if i = 0 then 0 else 1).sum = n := by
  induction n with
  | zero => rfl
  | succ n ih =>
    rw [List.range_succ, List.map_append, List.sum_append, ih]
    simp

/-- Among the first `n` numbers each one below `n` occurs once. -/
theorem count_eq_one (n x : Nat) (h : x < n) : Nat.count (fun i => i = x) n = 1 := by
  rw [Nat.count_eq_card_filter_range, Finset.filter_eq', if_pos (Finset.mem_range.2 h), Finset.card_singleton]

/-! ## The last node of each segment -/

/-- Every section has one node. -/
def Ones (x2 : IVec S8192 32) : Prop := ∀ i, x2 i = 1#32

/-- The running sum of ones less one: segment `j` ends at node `j`. -/
theorem lastNode_eq {x2 : IVec S8192 32} (h : Ones x2) (j : Fin 8192) : val_main_v2 (F := F) x2 (ix1 j) = BitVec.ofNat 32 j.val := by
  have e : val_main_v0 (F := F) x2 (ix1 j) = BitVec.ofNat 32 (j.val + 1) := by
    refine (cumsum1 (by rfl) x2 (fun _ => 1) (fun i => h _) (val_main_call0_call0_v0 (F := F)) ?_ _ _ j).trans ?_
    · rw [val_main_call0_call0_v0_apply, val_main_call0_call0_c_apply]
    · rw [sum_ones]
  rw [val_main_v2_apply, e, val_main_v1_apply, val_main_c_apply, succ_sub_one]

/-! ## The segment of each node -/

/-- The sizes moved on by one place are still all one. -/
theorem rolled_eq {x2 : IVec S8192 32} (h : Ones x2) (j : Fin 8192) : val_main_v4 (F := F) x2 (ix1 j) = 1#32 := by
  unfold val_main_v4
  have hj := j.isLt
  by_cases h0 : j.val < 1
  · refine (concatenate_pair_apply_left (s₁ := S1) (s₂ := S8191) (t := S8192) 0 _ _ _ (ix1 j) rfl (ix1 ⟨j.val, h0⟩) (fun b => ?_)).trans ?_
    · match b with
      | ⟨0, _⟩ => rfl
    · rw [val_main_call1_v0_apply]; exact h _
  · refine (concatenate_pair_apply_right (s₁ := S1) (s₂ := S8191) (t := S8192) 0 _ _ _ (ix1 j) rfl rfl (ix1 ⟨j.val - 1, by omega⟩) (fun b hb => ?_) ?_).trans ?_
    · match b with
      | ⟨0, _⟩ => exact absurd rfl hb
    · show j.val - 1 + 1 = j.val
      omega
    · rw [val_main_call1_v1_apply]; exact h _

/-- The segments' starts as differences: zero at the first segment, one at every other. -/
theorem starts_eq {x2 : IVec S8192 32} (h : Ones x2) (j : Fin 8192) :
    val_main_v6 (F := F) x2 (ix1 j) = BitVec.ofNat 32 (if j.val = 0 then 0 else 1) := by
  unfold val_main_v6
  refine (scatter_one _ rfl rfl (val_main_v4 (F := F) x2) (val_main_v5 (F := F)) (val_main_c_1 (F := F)) (⟨0, by omega⟩ : Fin 8192) (by norm_num) ?_ j).trans ?_
  · rw [val_main_v5_apply, val_main_c_0_apply]
  · rw [rolled_eq h, val_main_c_1_apply]
    by_cases h0 : j.val = 0
    · rw [if_pos (Fin.ext h0), if_pos h0]
    · rw [if_neg (fun e => h0 (congrArg Fin.val e)), if_neg h0]

/-- Segment `j` starts at node `j`; the start is inside the table, so the wrap of negative indices leaves it. -/
theorem start_eq {x2 : IVec S8192 32} (h : Ones x2) (j : Fin 8192) : val_main_v13 (F := F) x2 (ix1 j) = BitVec.ofNat 32 j.val := by
  have e : val_main_v7 (F := F) x2 (ix1 j) = BitVec.ofNat 32 j.val := by
    refine (cumsum1 (by rfl) (val_main_v6 (F := F) x2) (fun i => if i = 0 then 0 else 1) (fun i => starts_eq h i) (val_main_call2_call0_v0 (F := F)) ?_ _ _ j).trans ?_
    · rw [val_main_call2_call0_v0_apply, val_main_call2_call0_c_apply]
    · rw [sum_ones_but_first]
  rw [val_main_v13_apply, val_main_v10_apply, e, val_main_v9_apply, val_main_c_3_apply, wrap_small _ j.isLt]

/-- One segment starts at each node. -/
theorem histogram_eq {x2 : IVec S8192 32} (h : Ones x2) (j : Fin 8192) : val_main_v16 (F := F) x2 (ix1 j) = 1#32 := by
  unfold val_main_v16
  refine (scatter_hist _ rfl rfl rfl (val_main_v8 (F := F)) (fun i => ?_) (val_main_v14 (F := F) x2) (val_main_v15 (F := F)) (fun i => ?_) (fun i => i)
    (fun i => ?_) (fun i => ?_) j).trans ?_
  · rw [val_main_v8_apply, val_main_c_2_apply]
  · rw [val_main_v15_apply, val_main_c_5_apply]
  · rw [val_main_v14_apply, ← start_eq (F := F) h i]
    exact congrArg _ (eq_ix1 _)
  · have := i.isLt
    omega
  · rw [count_eq_one 8192 j.val j.isLt]

/-- The running sum of the histogram less one: node `j` is in segment `j`. -/
theorem running_eq {x2 : IVec S8192 32} (h : Ones x2) (j : Fin 8192) : val_main_v19 (F := F) x2 (ix1 j) = BitVec.ofNat 32 j.val := by
  have e : val_main_v17 (F := F) x2 (ix1 j) = BitVec.ofNat 32 (j.val + 1) := by
    refine (cumsum1 (by rfl) (val_main_v16 (F := F) x2) (fun _ => 1) (fun i => histogram_eq h i) (val_main_call3_call0_v0 (F := F)) ?_ _ _ j).trans ?_
    · rw [val_main_call3_call0_v0_apply, val_main_call3_call0_c_apply]
    · rw [sum_ones]
  rw [val_main_v19_apply, e, val_main_v18_apply, val_main_c_6_apply, succ_sub_one]

/-! ## The three takes -/

/-- The column of positions that a take reads: negative positions moved up by the table's length, the others kept. -/
def column (v : IVec S8192 32) : IVec S8192x1 32 :=
  broadcastInDim S8192x1 ![0] bcast_S8192_S8192x1_0
    (select (cmpi .slt v (broadcastInDim S8192 ![] bcast_S_S8192 (constantI S_ 32 0#32)))
      (addi v (broadcastInDim S8192 ![] bcast_S_S8192 (constantI S_ 32 8192#32))) v)

/-- Which positions of a column lie inside the table. -/
def inside (c : IVec S8192x1 32) : IVec S8192 1 :=
  Host.reduce IntOp.andi
    (andi (cmpi .sge c (broadcastInDim S8192x1 ![] bcast_S_S8192x1 (constantI S_ 32 0#32)))
      (cmpi .sle c (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- Where entry `j` of the positions is `j`, row `j` of the column is `j`. -/
theorem column_eq {v : IVec S8192 32} (hv : ∀ j : Fin 8192, v (ix1 j) = BitVec.ofNat 32 j.val) (j : Fin 8192) (i : S8192x1.Idx) (hi : i 0 = j) :
    column v i = BitVec.ofNat 32 j.val := by
  have e : i = ix2 j (0 : Fin 1) := by
    rw [← hi]
    funext a
    match a with
    | ⟨0, _⟩ => rfl
    | ⟨1, _⟩ => exact Subsingleton.elim (α := Fin 1) _ _
  unfold column
  rw [e, bcCol]
  show Scalar.select (IntOp.cmpi .slt (v (ix1 j)) (broadcastInDim S8192 ![] bcast_S_S8192 (constantI S_ 32 0#32) (ix1 j))) _ (v (ix1 j)) = _
  rw [bc0, hv]
  exact wrap_small _ j.isLt _

/-- Where row `j` of the column is `j`, every position is inside. -/
theorem inside_eq {c : IVec S8192x1 32} (hc : ∀ (j : Fin 8192) (i : S8192x1.Idx), i 0 = j → c i = BitVec.ofNat 32 j.val) (j : S8192.Idx) :
    inside c j = 1#1 := by
  refine Host.reduce_andi_one _ _ _ _ _ rfl fun i => ?_
  show IntOp.andi (IntOp.cmpi .sge (c i) (broadcastInDim S8192x1 ![] bcast_S_S8192x1 (constantI S_ 32 0#32) i)) (IntOp.cmpi .sle (c i) 8191#32) = 1#1
  rw [bc0, hc (i 0) i rfl]
  exact range_small _ (i 0).isLt

/-- The take of the segment numbers at the positions: node `j` is in segment `j`. -/
theorem segment_eq {x2 : IVec S8192 32} (h : Ones x2) (j : Fin 8192) : val_main_v20 (F := F) x2 (ix1 j) = BitVec.ofNat 32 j.val := by
  have hc := column_eq (running_eq (F := F) h)
  have hm : val_main_call4_v12 (F := F) x2 (ix1 j) = 1#1 := inside_eq hc (ix1 j)
  have hg : val_main_call4_v13 (F := F) x2 (ix1 j) = BitVec.ofNat 32 j.val :=
    (gather_take1 _ rfl rfl rfl rfl (val_main_v3 (F := F)) (column (val_main_v19 (F := F) x2)) j j (hc j _ rfl) (by norm_num)).trans rfl
  rw [val_main_v20_apply, hm, hg]; rfl

/-- Rows of a table taken at a column that holds `j` in row `j`, those outside the table replaced by `z`: the table's own rows. -/
theorem take_rows {α : Type} (x z : S8192x128.Idx → α) {v : IVec S8192 32} (hv : ∀ j : Fin 8192, v (ix1 j) = BitVec.ofNat 32 j.val) (j : Fin 8192) (k : Fin 128) :
    select (broadcastInDim S8192x128 ![0] bcast_S8192_S8192x128_0 (inside (column v)))
      (Host.gather gather_S8192x128_S8192x1_S8192x128_1_0_n_n_0_1_1128 x (column v)) z (ix2 j k) = x (ix2 j k) := by
  have hc := column_eq hv
  show Scalar.select (inside (column v) _) (Host.gather gather_S8192x128_S8192x1_S8192x128_1_0_n_n_0_1_1128 x (column v) (ix2 j k)) (z (ix2 j k)) = _
  rw [inside_eq hc, gather_row _ rfl rfl rfl rfl rfl x _ j k j (hc j _ rfl) (by norm_num)]; rfl

/-- The rows at the segments' last nodes are the table's rows. -/
theorem taken_eq (x0 : FVec F S8192x128 .f32) {x2 : IVec S8192 32} (h : Ones x2) (j : Fin 8192) (k : Fin 128) :
    val_main_v21 (F := F) x0 x2 (ix2 j k) = x0 (ix2 j k) :=
  take_rows x0 (val_main_call5_v15 (F := F)) (lastNode_eq (F := F) h) j k

/-- The last rows repeated once for each node of their segment are again the table's rows. -/
theorem repeated_eq (x0 : FVec F S8192x128 .f32) {x2 : IVec S8192 32} (h : Ones x2) (j : Fin 8192) (k : Fin 128) :
    val_main_v22 (F := F) x0 x2 (ix2 j k) = x0 (ix2 j k) :=
  (take_rows (val_main_v21 (F := F) x0 x2) (val_main_call6_v15 (F := F)) (segment_eq (F := F) h) j k).trans (taken_eq x0 h j k)

/-- The column of segment numbers at which the weighted rows are added up. -/
theorem target_eq {x2 : IVec S8192 32} (h : Ones x2) (j : Fin 8192) (i : S8192x1.Idx) (hi : i 0 = j) :
    val_main_v47 (F := F) x2 i = BitVec.ofNat 32 j.val := by
  have e : idx_main_v47 i = ix1 j := by rw [← hi]; exact eq_ix1 _
  rw [val_main_v47_apply, e, segment_eq h]

end Cert.Segments

end
-- ==== Proof.RowScatter.lean ====
/- A sum of rows at given targets (`segment_sum`): each update row is added to the row of the result that its index word names.
   `scatterAdd_own_row`: where update row `j` names row `j`, every row of the result is the operand's row plus its own update row. -/
module

public import Idealize.ShloMosaic.PureOps.Ideal
public import Idealize.ShloMosaic.Lib.Routing.OpsPair

@[expose] public section

noncomputable section

namespace Cert.RowScatter

open Idealize.ShloMosaic Idealize.ShloMosaic.ValueIdx Idealize.ShloMosaic.Routing

variable {N C : Nat}

/-- Entry `(a, b)` of the updates lands at `(r, c)` exactly when the index word of row `a`, read signed, is `r`, and `b` is `c`. -/
theorem lands_row (d : ScatterDims (shape2 N C) (shape2 N 1) (shape2 N C)) (huw : d.updateWindowDims = [1]) (hiw : d.insertedWindowDims = [0])
    (hsd : d.scatterDimsToOperandDims = [0]) (hivd : d.indexVectorDim = 1) (idx : IVec (shape2 N 1) 32) (a r : Fin N) (b c : Fin C) :
    d.resultIdx? (ix2 a b) idx = some (ix2 r c) ↔ (idx (ix2 a (0 : Fin 1))).toInt = (r.val : Int) ∧ b = c := by
  have hm : (0 : Fin 2) ∈ d.scatterDimsToOperandDims := by rw [hsd]; exact List.mem_singleton.2 rfl
  have hm1 : (1 : Fin 2) ∉ d.scatterDimsToOperandDims := fun h => by
    rw [hsd] at h
    exact absurd (congrArg Fin.val (List.mem_singleton.1 h)) (by show (1 : Nat) ≠ 0; omega)
  -- the row is chosen by the index, the column by the window
  have hw0 : d.window (ix2 a b) 0 = 0 := by
    unfold ScatterDims.window
    rw [dif_neg fun h => (of_decide_eq_true (List.mem_filter.1 h).2) (by rw [hiw]; exact List.mem_singleton.2 rfl)]
  have hw1 : d.window (ix2 a b) 1 = b.val := by
    have hk : (1 : Fin 2) ∈ d.sKept := List.mem_filter.2 ⟨List.mem_finRange _, decide_eq_true fun h => by
      rw [hiw] at h
      exact absurd (congrArg Fin.val (List.mem_singleton.1 h)) (by show (1 : Nat) ≠ 0; omega)⟩
    have e1 : ∀ X : Fin 2, X = 1 → (ix2 a b X).val = b.val := fun X h => by subst h; rfl
    unfold ScatterDims.window
    rw [dif_pos hk]
    refine e1 _ ?_
    have hu : ∀ k ∈ d.updateWindowDims, k = (1 : Fin 2) := fun k hk => by rw [huw] at hk; exact List.mem_singleton.1 hk
    exact hu _ (List.getElem_mem _)
  have hs0 : d.start (ix2 a b) idx 0 = (idx (ix2 a (0 : Fin 1))).toInt := by
    unfold ScatterDims.start
    rw [dif_pos hm]
    have hsi : d.siIdx (ix2 a b) ⟨d.scatterDimsToOperandDims.idxOf 0, List.idxOf_lt_length_iff.2 hm⟩ = ix2 a (0 : Fin 1) := by
      funext b'
      match b' with
      | ⟨0, _⟩ =>
        apply Fin.ext
        have e0 : ∀ X : Fin 2, X = 0 → (ix2 a b X).val = a.val := fun X h => by subst h; rfl
        have hk0 : ∀ k ∈ d.uScatter, k = (0 : Fin 2) := fun k hk => by
          have hk' : k ∉ d.updateWindowDims := of_decide_eq_true (List.mem_filter.1 hk).2
          rw [huw] at hk'
          have h1 : k.val ≠ 1 := fun e => hk' (List.mem_singleton.2 (Fin.ext e))
          have h2 : k.val < 2 := k.isLt
          exact Fin.ext (by show k.val = 0; omega)
        unfold ScatterDims.siIdx
        rw [dif_neg (by rw [hivd]; exact Nat.zero_ne_one)]
        unfold ScatterDims.siCoord
        simp only [Fin.val_cast]
        exact e0 _ (hk0 _ (List.getElem_mem _))
      | ⟨1, _⟩ => exact Subsingleton.elim (α := Fin 1) _ _
    rw [hsi]
  have hs1 : d.start (ix2 a b) idx 1 = 0 := by
    unfold ScatterDims.start
    rw [dif_neg hm1]
  rw [resultIdx?_ix2, hs0, hs1, hw0, hw1, Fin.ext_iff]
  omega

/-- Where the index word of each row `j` is `j`, entry `(r, c)` of the sum is the operand's entry plus the update's entry there. -/
theorem scatterAdd_own_row (d : ScatterDims (shape2 N C) (shape2 N 1) (shape2 N C)) (huw : d.updateWindowDims = [1]) (hiw : d.insertedWindowDims = [0])
    (hsd : d.scatterDimsToOperandDims = [0]) (hivd : d.indexVectorDim = 1) (x : (shape2 N C).Idx → EReal) (idx : IVec (shape2 N 1) 32)
    (upd : (shape2 N C).Idx → EReal) (hN : N < 2 ^ 31) (hidx : ∀ j : Fin N, idx (ix2 j (0 : Fin 1)) = BitVec.ofNat 32 j.val) (r : Fin N) (c : Fin C) :
    Ideal.hostScatterAdd d x idx upd (ix2 r c) = x (ix2 r c) + upd (ix2 r c) := by
  have e : (Finset.univ.filter fun j => d.resultIdx? j idx = some (ix2 r c)) = {ix2 r c} := by
    ext j
    obtain ⟨a, b, rfl⟩ : ∃ (a : Fin N) (b : Fin C), j = ix2 a b := ⟨j 0, j 1, eq_ix2 j⟩
    rw [Finset.mem_filter, Finset.mem_singleton, lands_row d huw hiw hsd hivd, hidx, StableHlo.Predicate.toInt_ofNat_small _ (lt_trans a.isLt hN)]
    constructor
    · rintro ⟨-, h0, h1⟩
      rw [h1, Fin.ext (show a.val = r.val by exact_mod_cast h0)]
    · intro h
      have h0 : a = r := congrFun h 0
      have h1 : b = c := congrFun h 1
      exact ⟨Finset.mem_univ _, by rw [h0], h1⟩
  unfold Ideal.hostScatterAdd
  rw [e, Finset.sum_singleton]

end Cert.RowScatter

end
-- ==== Proof.RefValue.lean ====
/- The reference's result at an entry. Where every segment has one node, entry `(i, j)` of the reference is `RowMath.referenceRow` of row `i`
   and output column `j` (`result_eq`): the affine maps, the sigmoid, the attention weight and the weighted sum are read off stage by stage. -/
module

public import proofs.«01_k».proof.Proof.RowMath
public import proofs.«01_k».proof.Proof.Segments
public import proofs.«01_k».proof.Proof.RowScatter

@[expose] public section

noncomputable section

namespace Cert.RefValue

open Cert.ReferenceIdeal Cert.ReferenceIdeal.Gen Cert.ReferenceIdeal.Read Idealize.ShloMosaic Idealize.ShloMosaic.ValueIdx Cert.RowMath Cert.Segments

/-- The f32 word of one is the number one. -/
theorem one_word : Ideal.ofBits .f32 0x3F800000#32 = 1 := by
  simp [Ideal.ofBits, Ideal.ieee, -EReal.coe_mul]; norm_num

/-- The f32 word of zero is the number zero. -/
theorem zero_word : Ideal.ofBits .f32 0x00000000#32 = 0 := by simp [Ideal.ofBits, Ideal.ieee]

/-- A sum over 256 splits into its first and its second 128 terms. -/
theorem sum_halves (f : Fin 256 → EReal) :
    (∑ k, f k) = (∑ k : Fin 128, f ⟨k.val, by omega⟩) + ∑ k : Fin 128, f ⟨128 + k.val, by omega⟩ :=
  Fin.sum_univ_add (a := 128) (b := 128) f

variable (x0 : FVec Ideal S8192x128 .f32) {x2 : IVec S8192 32} (x3 : FVec Ideal S8192 .f32) (x7 : FVec Ideal S128x128 .f32) (x8 : FVec Ideal S128 .f32)
  (x9 : FVec Ideal S128x128 .f32) (x10 : FVec Ideal S128 .f32) (x11 : FVec Ideal S128x1 .f32) (x12 : FVec Ideal S1 .f32) (x13 : FVec Ideal S256x128 .f32)
  (x14 : FVec Ideal S128 .f32)

/-- The sum of the two affine maps. -/
theorem pre_eq (h : Ones x2) (i : Fin 8192) (k : Fin 128) :
    val_main_v31 (F := Ideal) x0 x2 x7 x8 x9 x10 (ix2 i k)
      = referencePre (fun l => x0 (ix2 i l)) (fun l k => x7 (ix2 l k)) (fun l k => x9 (ix2 l k)) (fun k => x8 (ix1 k)) (fun k => x10 (ix1 k)) k := by
  have el : ∀ l, lidx_main_v23 (ix2 i k) l = ix2 i l := fun l => eq_ix2 _
  have er : ∀ l, ridx_main_v23 (ix2 i k) l = ix2 l k := fun l => eq_ix2 _
  have el' : ∀ l, lidx_main_v27 (ix2 i k) l = ix2 i l := fun l => eq_ix2 _
  have er' : ∀ l, ridx_main_v27 (ix2 i k) l = ix2 l k := fun l => eq_ix2 _
  have e8 : idx_main_v24 (idx_main_v25 (ix2 i k)) = ix1 k := eq_ix1 _
  have e10 : idx_main_v28 (idx_main_v29 (ix2 i k)) = ix1 k := eq_ix1 _
  rw [val_main_v31_apply, val_main_v26_apply, val_main_v30_apply, val_main_v23_apply, val_main_v27_apply, val_main_v25_apply, val_main_v24_apply,
    val_main_v29_apply, val_main_v28_apply, e8, e10]
  simp only [el, er, el', er', repeated_eq x0 h]
  rfl

/-- The sigmoid of that sum. -/
theorem sigmoid_eq (h : Ones x2) (i : Fin 8192) (k : Fin 128) :
    val_main_v37 (F := Ideal) x0 x2 x7 x8 x9 x10 (ix2 i k)
      = Ideal.logistic (referencePre (fun l => x0 (ix2 i l)) (fun l k => x7 (ix2 l k)) (fun l k => x9 (ix2 l k)) (fun k => x8 (ix1 k)) (fun k => x10 (ix1 k)) k) := by
  rw [val_main_v37_apply, val_main_v36_apply, val_main_cst_7_apply, val_main_v35_apply, val_main_v34_apply, val_main_cst_apply, val_main_v33_apply,
    val_main_v32_apply, pre_eq x0 x7 x8 x9 x10 h]
  show Ideal.div (Ideal.ofBits .f32 0x3F800000#32) (Ideal.ofBits .f32 0x3F800000#32 + Ideal.exp (-_)) = _
  rw [one_word]; rfl

/-- The attention weight of node `i`. -/
theorem gate_eq (h : Ones x2) (i : Fin 8192) (z : Fin 1) :
    val_main_v41 (F := Ideal) x0 x2 x7 x8 x9 x10 x11 x12 (ix2 i z)
      = referenceGate (fun l => x0 (ix2 i l)) (fun l k => x7 (ix2 l k)) (fun l k => x9 (ix2 l k)) (fun k => x8 (ix1 k)) (fun k => x10 (ix1 k))
          (fun k => x11 (ix2 k 0)) (x12 (ix1 0)) := by
  obtain rfl : z = 0 := Subsingleton.elim _ _
  have el : ∀ l, lidx_main_v38 (ix2 i (0 : Fin 1)) l = ix2 i l := fun l => eq_ix2 _
  have er : ∀ l, ridx_main_v38 (ix2 i (0 : Fin 1)) l = ix2 l 0 := fun l => eq_ix2 _
  have e12 : idx_main_v39 (idx_main_v40 (ix2 i (0 : Fin 1))) = ix1 0 := eq_ix1 _
  rw [val_main_v41_apply, val_main_v38_apply, val_main_v40_apply, val_main_v39_apply, e12]
  simp only [el, er, sigmoid_eq x0 x7 x8 x9 x10 h]
  rfl

/-- The weighted row of node `i`, which is the whole sum of its segment. -/
theorem segmentSum_eq (h : Ones x2) (i : Fin 8192) (k : Fin 128) :
    val_main_v48 (F := Ideal) x0 x2 x3 x7 x8 x9 x10 x11 x12 (ix2 i k)
      = x3 (ix1 i) * referenceGate (fun l => x0 (ix2 i l)) (fun l k => x7 (ix2 l k)) (fun l k => x9 (ix2 l k)) (fun k => x8 (ix1 k)) (fun k => x10 (ix1 k))
          (fun k => x11 (ix2 k 0)) (x12 (ix1 0)) * x0 (ix2 i k) := by
  have e := RowScatter.scatterAdd_own_row scatter_S8192x128_S8192x1_S8192x128_1_0_0_1 rfl rfl rfl rfl (val_main_v46 (F := Ideal))
    (val_main_v47 (F := Ideal) x2) (val_main_v45 (F := Ideal) x0 x2 x3 x7 x8 x9 x10 x11 x12) (by norm_num) (fun j => target_eq h j _ rfl) i k
  have e3 : idx_main_v42 (ix2 i (0 : Fin 1)) = ix1 i := (eq_ix1 _).trans (congrArg ix1 (Fin.ext (by show i.val * 1 + 0 = i.val; omega)))
  have e44 : idx_main_v44 (ix2 i k) = ix2 i (0 : Fin 1) := eq_ix2 _
  refine Eq.trans e ?_
  rw [val_main_v46_apply, val_main_cst_8_apply, val_main_v45_apply, val_main_v44_apply, e44, val_main_v43_apply, val_main_v42_apply, e3,
    gate_eq x0 x7 x8 x9 x10 x11 x12 h]
  show Ideal.ofBits .f32 0x00000000#32 + _ = _
  rw [zero_word, zero_add]; rfl

/-- The first 128 columns of the joined rows are the table's. -/
theorem joined_left (h : Ones x2) (i : Fin 8192) (k : Fin 128) :
    val_main_v49 (F := Ideal) x0 x2 x3 x7 x8 x9 x10 x11 x12 (ix2 i (⟨k.val, by omega⟩ : Fin 256)) = x0 (ix2 i k) := by
  unfold val_main_v49
  refine (concatenate_pair_apply_left (s₁ := S8192x128) (s₂ := S8192x128) (t := S8192x256) 1 _ _ _ _ rfl (ix2 i k) (fun b => ?_)).trans (taken_eq x0 h i k)
  match b with
  | ⟨0, _⟩ => rfl
  | ⟨1, _⟩ => rfl

/-- The last 128 columns of the joined rows are the segment sums. -/
theorem joined_right (i : Fin 8192) (k : Fin 128) :
    val_main_v49 (F := Ideal) x0 x2 x3 x7 x8 x9 x10 x11 x12 (ix2 i (⟨128 + k.val, by omega⟩ : Fin 256))
      = val_main_v48 (F := Ideal) x0 x2 x3 x7 x8 x9 x10 x11 x12 (ix2 i k) := by
  unfold val_main_v49
  refine concatenate_pair_apply_right (s₁ := S8192x128) (s₂ := S8192x128) (t := S8192x256) 1 _ _ _ _ rfl rfl (ix2 i k) (fun b hb => ?_) ?_
  · match b with
    | ⟨0, _⟩ => rfl
    | ⟨1, _⟩ => exact absurd rfl hb
  · show k.val + 128 = 128 + k.val
    omega

/-- Entry `(i, j)` of the reference's result. -/
theorem result_eq (h : Ones x2) (i : Fin 8192) (j : Fin 128) :
    val_main_v53 (F := Ideal) x0 x2 x3 x7 x8 x9 x10 x11 x12 x13 x14 (ix2 i j)
      = referenceRow (fun l => x0 (ix2 i l)) (x3 (ix1 i)) (fun l k => x7 (ix2 l k)) (fun l k => x9 (ix2 l k)) (fun k => x8 (ix1 k)) (fun k => x10 (ix1 k))
          (fun k => x11 (ix2 k 0)) (x12 (ix1 0)) (fun k => x13 (ix2 (⟨k.val, by omega⟩ : Fin 256) j)) (fun k => x13 (ix2 (⟨128 + k.val, by omega⟩ : Fin 256) j))
          (x14 (ix1 j)) := by
  have el : ∀ l, lidx_main_v50 (ix2 i j) l = ix2 i l := fun l => eq_ix2 _
  have er : ∀ l, ridx_main_v50 (ix2 i j) l = ix2 l j := fun l => eq_ix2 _
  have e14 : idx_main_v51 (idx_main_v52 (ix2 i j)) = ix1 j := eq_ix1 _
  rw [val_main_v53_apply, val_main_v50_apply, val_main_v52_apply, val_main_v51_apply, e14, sum_halves]
  simp only [el, er, joined_left x0 x3 x7 x8 x9 x10 x11 x12 h, joined_right, segmentSum_eq x0 x3 x7 x8 x9 x10 x11 x12 h]
  rfl

end Cert.RefValue

end
-- ==== Proof.BlockValue.lean ====
/- What one grid point of the kernel computes. Entry `(i, j)` of the block that a point writes is `RowMath.kernelRow` of row `i` of its
   block of `x`, entry `i` of its block of node counts, and output column `j` (`block_eq`): the matrix products, the broadcasts and the
   reshapes of the body are read off stage by stage over the extended reals. -/
module

public import proofs.«01_k».proof.Proof.RowMath
public import proofs.«01_k».proof.Proof.Gen.KernelIdeal.Frame
public import Idealize.ShloMosaic.Lib.Pipeline.Value
public import Idealize.ShloMosaic.Lib.ValueIdx
public import Idealize.ShloMosaic.PureOps.Ideal.Laws
public import Idealize.ShloMosaic.Lib.MatmulPlain

@[expose] public section

noncomputable section

namespace Cert.BlockValue

open Cert.KernelIdeal Cert.KernelIdeal.Gen Idealize.ShloMosaic Idealize.ShloMosaic.ValueIdx Cert.RowMath

/-- The f32 word of one half is the number one half. -/
theorem half_word : Ideal.ofBits .f32 0x3F000000#32 = half := by
  simp [Ideal.ofBits, Ideal.ieee, -EReal.coe_mul]; norm_num

/-! ## A plain matrix product, at an entry -/

/-- A product accumulated into the zero constant is, at entry `(i, j)`, the sum over the inner index. -/
theorem product_apply {n p : Nat} {φ₁ φ₂ : FTy} (A : FVec Ideal ⟨2, ![n, 128]⟩ φ₁) (B : FVec Ideal ⟨2, ![128, p]⟩ φ₂) (i : Fin n) (j : Fin p) :
    FloatOps.matmul (DotDims.plain n 128 p) none A B (constant ⟨2, ![n, p]⟩ .f32 0x00000000#32) (ix2 i j)
      = ∑ k : Fin 128, A (ix2 i k) * B (ix2 k j) := by
  rw [Ideal.matmul_plain_apply]
  show Ideal.ofBits .f32 0x00000000#32 + _ = _
  rw [Ideal.ofBits_zero_f32, zero_add]

/-- The body's products by a square matrix, at an entry. -/
theorem square_apply {φ₁ φ₂ : FTy} (A : FVec Ideal S4096x128 φ₁) (B : FVec Ideal S128x128 φ₂) (i : Fin 4096) (j : Fin 128) :
    FloatOps.matmul dot_S4096x128_S128x128_S4096x128_1_0_0_1_n_n none A B (constant S4096x128 .f32 0x00000000#32) (ix2 i j)
      = ∑ k : Fin 128, A (ix2 i k) * B (ix2 k j) :=
  product_apply A B i j

/-- The body's product by a column, at an entry. -/
theorem column_apply {φ₁ φ₂ : FTy} (A : FVec Ideal S4096x128 φ₁) (B : FVec Ideal S128x1 φ₂) (i : Fin 4096) :
    FloatOps.matmul dot_S4096x128_S128x1_S4096x1_1_0_0_1_n_n none A B (constant S4096x1 .f32 0x00000000#32) (ix2 i 0)
      = ∑ k : Fin 128, A (ix2 i k) * B (ix2 k 0) :=
  product_apply A B i 0

/-! ## Reshapes and broadcasts, at an entry -/

/-- A vector of 128 laid out as one row and repeated down the block reads, at entry `(i, j)`, its entry `j`. -/
theorem bias_apply (v : FVec Ideal S128 .f32) (i : Fin 4096) (j : Fin 128) :
    broadcastTo S4096x128 (shapeCast S1x128 v shapeCasts_S128_S1x128) broadcasts_S1x128_S4096x128 (ix2 i j) = v (ix1 j) := by
  refine (broadcastTo_apply _ _ _ (ix2 (0 : Fin 1) j) fun a => ?_).trans (shapeCast_apply v _ _ (ix1 j) ?_)
  · match a with
    | ⟨0, _⟩ => rfl
    | ⟨1, _⟩ => rfl
  · rw [Shape.rowMajor_val_one, Shape.rowMajor_val_two]
    show j.val = 0 * 128 + j.val
    omega

/-- A column repeated across the block reads, at entry `(i, j)`, its entry `i`. -/
theorem spread_apply (v : FVec Ideal S4096x1 .f32) (i : Fin 4096) (j : Fin 128) :
    broadcastTo S4096x128 v broadcasts_S4096x1_S4096x128 (ix2 i j) = v (ix2 i 0) :=
  broadcastTo_apply v _ _ _ fun a => match a with
    | ⟨0, _⟩ => rfl
    | ⟨1, _⟩ => rfl

/-- A single number repeated down a column is that number at every entry. -/
theorem single_apply (v : FVec Ideal S1x1 .f32) (i : Fin 4096) :
    broadcastTo S4096x1 v broadcasts_S1x1_S4096x1 (ix2 i 0) = v (ix2 0 0) :=
  broadcastTo_apply v _ _ _ fun a => match a with
    | ⟨0, _⟩ => rfl
    | ⟨1, _⟩ => rfl

/-- The node counts laid out as a column. -/
theorem counts_apply (v : Vec Ideal S4096 .f32) (i : Fin 4096) : k0_pay4 (F := Ideal) v (ix2 i 0) = v (ix1 i) := by
  refine shapeCast_apply v shapeCasts_S4096_S4096x1 _ (ix1 i) ?_
  rw [Shape.rowMajor_val_one, Shape.rowMajor_val_two]
  show i.val = i.val * 1 + 0
  omega

/-- A single number laid out as a `1 × 1` matrix. -/
theorem unit_apply (v : FVec Ideal S1 .f32) : shapeCast S1x1 v shapeCasts_S1_S1x1 (ix2 0 0) = v (ix1 0) := by
  refine shapeCast_apply v _ _ (ix1 0) ?_
  rw [Shape.rowMajor_val_one, Shape.rowMajor_val_two]
  rfl

/-- The body's sum of all entries of `q`. -/
theorem total_apply (q : FVec Ideal S128x1 .f32) :
    extractAt ![0, 0, 0] (shapeCast S1x1x1 (multiReduction .add [1, 2] S1 (shapeCast S1x128x1 q shapeCasts_S128x1_S1x128x1) 0x00000000#32
      reduces_S1x128x1_S1 (.inl rfl) rfl) shapeCasts_S1_S1x1x1) inpos_S1x1x1_p0_0_0 = ∑ k : Fin 128, q (ix2 k 0) := by
  unfold extractAt shapeCast
  refine (Ideal.multiReduction_add_total _ _ reduces_S1x128x1_S1 (by decide) (.inl rfl) rfl _).trans ?_
  refine (Equiv.sum_comp (Shape.reshapeEquiv shapeCasts_S128x1_S1x128x1) fun i => q i).trans ?_
  rw [sum_idx2]
  exact Finset.sum_congr rfl fun k _ => Fin.sum_univ_one _

/-! ## The body's values -/

/-- The argument of the tangent, at an entry. -/
theorem pre_apply (x : FVec Ideal S4096x128 .f32) (W1 W2 : FVec Ideal S128x128 .f32) (b1 b2 : FVec Ideal S128 .f32) (i : Fin 4096) (k : Fin 128) :
    (FloatOps.matmul dot_S4096x128_S128x128_S4096x128_1_0_0_1_n_n none (k0_pay2 (F := Ideal) x)
        (truncf .bf16 (mulf (broadcast S128x128 (Scalar.ofBits (F := Ideal) .f32 0x3F000000#32)) (addf W1 W2)) bitsLt_bf16_f32)
        (constant S4096x128 .f32 0x00000000#32) (ix2 i k) : EReal)
      + broadcastTo S4096x128 (shapeCast S1x128 (mulf (broadcast S128 (Scalar.ofBits (F := Ideal) .f32 0x3F000000#32)) (addf b1 b2))
          shapeCasts_S128_S1x128) broadcasts_S1x128_S4096x128 (ix2 i k)
      = kernelPre (fun l => x (ix2 i l)) (fun l k => W1 (ix2 l k)) (fun l k => W2 (ix2 l k)) (fun k => b1 (ix1 k)) (fun k => b2 (ix1 k)) k := by
  rw [square_apply, bias_apply]
  show (∑ l, x (ix2 i l) * (Ideal.ofBits .f32 0x3F000000#32 * (W1 (ix2 l k) + W2 (ix2 l k))))
    + Ideal.ofBits .f32 0x3F000000#32 * (b1 (ix1 k) + b2 (ix1 k)) = _
  rw [half_word]
  rfl

/-- The attention weight, at a row. -/
theorem gate_apply (x : FVec Ideal S4096x128 .f32) (W1 W2 : FVec Ideal S128x128 .f32) (b1 b2 : FVec Ideal S128 .f32) (q : FVec Ideal S128x1 .f32)
    (qb : FVec Ideal S1 .f32) (i : Fin 4096) :
    k0_pay3 (F := Ideal) x W1 W2 b1 b2 q qb (ix2 i 0)
      = kernelGate (fun l => x (ix2 i l)) (fun l k => W1 (ix2 l k)) (fun l k => W2 (ix2 l k)) (fun k => b1 (ix1 k)) (fun k => b2 (ix1 k))
          (fun k => q (ix2 k 0)) (qb (ix1 0)) := by
  unfold k0_pay3
  refine congrArg₂ (· + ·) (congrArg₂ (· * ·) half_word ?_) ?_
  · refine (column_apply _ _ i).trans (Finset.sum_congr rfl fun k _ => ?_)
    exact congrArg (fun s : EReal => Ideal.tanh s * q (ix2 k 0)) (pre_apply x W1 W2 b1 b2 i k)
  · refine (single_apply _ i).trans (congrArg₂ (· + ·) (congrArg₂ (· * ·) half_word (total_apply q)) (unit_apply qb))

/-- The stored payload, at an entry. -/
theorem payload_apply (x : FVec Ideal S4096x128 .f32) (gate nc : FVec Ideal S4096x1 .f32) (top bot : FVec Ideal S128x128 .f32)
    (b3 : FVec Ideal S128 .f32) (i : Fin 4096) (j : Fin 128) :
    k0_pay1 (F := Ideal) (k0_pay2 x) gate nc (k0_pay5 top) (constant S4096x128 .f32 0x00000000#32) bot b3 (ix2 i j)
      = ((∑ k : Fin 128, (x (ix2 i k) * top (ix2 k j) : EReal)) + nc (ix2 i 0) * gate (ix2 i 0) * ∑ k : Fin 128, (x (ix2 i k) * bot (ix2 k j) : EReal))
          + b3 (ix1 j) := by
  unfold k0_pay1
  refine congrArg₂ (· + ·) (congrArg₂ (· + ·) (square_apply _ _ i j) (congrArg₂ (· * ·) ?_ (square_apply _ _ i j))) (bias_apply b3 i j)
  exact spread_apply _ i j

/-! ## The block -/

/-- The offset list of one zero is zero on every axis. -/
theorem zero_offset1 : (![0] : Fin 1 → Nat) = fun _ => 0 := funext fun a => by fin_cases a; rfl
/-- The offset list of two zeros is zero on every axis. -/
theorem zero_offset2 : (![0, 0] : Fin 2 → Nat) = fun _ => 0 := funext fun a => by fin_cases a <;> rfl

variable (x : Vec Ideal S4096x128 .f32) (nc : Vec Ideal S4096 .f32) (W1 : Vec Ideal S128x128 .f32) (b1 : Vec Ideal S128 .f32)
  (W2 : Vec Ideal S128x128 .f32) (b2 : Vec Ideal S128 .f32) (q : Vec Ideal S128x1 .f32) (qb : Vec Ideal S1 .f32) (W3 : Vec Ideal S256x128 .f32)
  (b3 : Vec Ideal S128 .f32)

/-- Entry `(i, j)` of the block a grid point leaves is the kernel's row. -/
theorem block_eq (i : Fin 4096) (j : Fin 128) :
    out0_10 (F := Ideal) x nc W1 b1 W2 b2 q qb W3 b3 (ix2 i j)
      = kernelRow (fun l => x (ix2 i l)) (nc (ix1 i)) (fun l k => W1 (ix2 l k)) (fun l k => W2 (ix2 l k)) (fun k => b1 (ix1 k)) (fun k => b2 (ix1 k))
          (fun k => q (ix2 k 0)) (qb (ix1 0)) (fun k => W3 (ix2 (⟨k.val, by omega⟩ : Fin 256) j))
          (fun k => W3 (ix2 (⟨128 + k.val, by omega⟩ : Fin 256) j)) (b3 (ix1 j)) := by
  unfold out0_10
  rw [View.canon_unit_zero zero_offset2, View.ld_unit_zero zero_offset2, View.ld_unit_zero zero_offset2, View.ld_unit_zero zero_offset2,
    View.ld_unit_zero zero_offset1, View.ld_unit_zero zero_offset1, View.ld_unit_zero zero_offset2, View.ld_unit_zero zero_offset1,
    View.ld_unit_zero zero_offset1, View.ld_unit_zero zero_offset1]
  rw [payload_apply, gate_apply, counts_apply]
  have upper : ∀ k : Fin 128, View.ld W3 r0_6 (ix2 k j) = W3 (ix2 (⟨k.val, by omega⟩ : Fin 256) j) := fun k =>
    congrArg W3 (funext fun a => Fin.ext (by match a with | ⟨0, _⟩ => exact (by show 0 + 1 * k.val = k.val; omega) | ⟨1, _⟩ => exact (by show 0 + 1 * j.val = j.val; omega)))
  have lower : ∀ k : Fin 128, View.ld W3 r0_7 (ix2 k j) = W3 (ix2 (⟨128 + k.val, by omega⟩ : Fin 256) j) := fun k =>
    congrArg W3 (funext fun a => Fin.ext (by match a with | ⟨0, _⟩ => exact (by show 128 + 1 * k.val = 128 + k.val; omega) | ⟨1, _⟩ => exact (by show 0 + 1 * j.val = j.val; omega)))
  unfold kernelRow
  refine congrArg (· + b3 (ix1 j)) (congrArg₂ (· + ·) (Finset.sum_congr rfl fun k _ => ?_) (congrArg _ (Finset.sum_congr rfl fun k _ => ?_)))
  · exact congrArg (fun s : EReal => x (ix2 i k) * s) (upper k)
  · exact congrArg (fun s : EReal => x (ix2 i k) * s) (lower k)

end Cert.BlockValue

end
-- ==== Proof.KernelValue.lean ====
/- The kernel's result array. Two grid points each write a block of 4096 rows, so after the run entry `(i, j)` of the result is
   `RowMath.kernelRow` of row `i` of the argument arrays and output column `j` (`final_eq`). -/
module

public import proofs.«01_k».proof.Proof.BlockValue
public import proofs.«01_k».proof.Proof.Gen.KernelIdeal.Value

@[expose] public section

noncomputable section

namespace Cert.KernelValue

open Cert.KernelIdeal Cert.KernelIdeal.Gen Cert.KernelIdeal.Value Idealize.ShloMosaic Idealize.ShloMosaic.TcCoe Idealize.ShloMosaic.ValueIdx
  Idealize.SL.Sem Cert.RowMath
open Idealize.ShloMosaic.Pipeline (Dat)

variable (m : (ℓ : Loc nD τ sig) → Buf (Elt Ideal) ℓ) (ρ : Dev nD → PrngReg)

/-- The result as one function of the argument arrays: at entry `i`, the kernel's row number `i 0` at column `i 1`. -/
def value (c : Dev nD) : Buf (Elt Ideal) ((c : Thread nD τ).loc main_v0) := fun i : S8192x128.Idx =>
  kernelRow (fun l => (m ((c : Thread nD τ).loc main_arg0) : Vec Ideal S8192x128 .f32) (ix2 (i 0) l))
    ((m ((c : Thread nD τ).loc main_arg3) : Vec Ideal S8192 .f32) (ix1 (i 0)))
    (fun l k => (m ((c : Thread nD τ).loc main_arg7) : Vec Ideal S128x128 .f32) (ix2 l k))
    (fun l k => (m ((c : Thread nD τ).loc main_arg9) : Vec Ideal S128x128 .f32) (ix2 l k))
    (fun k => (m ((c : Thread nD τ).loc main_arg8) : Vec Ideal S128 .f32) (ix1 k))
    (fun k => (m ((c : Thread nD τ).loc main_arg10) : Vec Ideal S128 .f32) (ix1 k))
    (fun k => (m ((c : Thread nD τ).loc main_arg11) : Vec Ideal S128x1 .f32) (ix2 k 0))
    ((m ((c : Thread nD τ).loc main_arg12) : Vec Ideal S1 .f32) (ix1 0))
    (fun k => (m ((c : Thread nD τ).loc main_arg13) : Vec Ideal S256x128 .f32) (ix2 (⟨k.val, by omega⟩ : Fin 256) (i 1)))
    (fun k => (m ((c : Thread nD τ).loc main_arg13) : Vec Ideal S256x128 .f32) (ix2 (⟨128 + k.val, by omega⟩ : Fin 256) (i 1)))
    ((m ((c : Thread nD τ).loc main_arg14) : Vec Ideal S128 .f32) (ix1 (i 1)))

/-! ## Where each window's block lies -/

/-- Point `t` takes block `t` of the rows of `x`, of the node counts and of the result. -/
theorem row_blocks : ∀ t : Fin cfg0.N,
    win0_0.index t (0 : Fin 2) = t.val ∧ win0_0.index t (1 : Fin 2) = 0 ∧ win0_1.index t (0 : Fin 1) = t.val
      ∧ win0_10.index t (0 : Fin 2) = t.val ∧ win0_10.index t (1 : Fin 2) = 0 :=
  (by decide +kernel : ∀ t : Fin grid0.N, _)

/-- Every point takes the whole of each weight and bias array. -/
theorem whole_blocks : ∀ t : Fin cfg0.N,
    (∀ a, win0_2.index t a = 0) ∧ (∀ a, win0_3.index t a = 0) ∧ (∀ a, win0_4.index t a = 0) ∧ (∀ a, win0_5.index t a = 0)
      ∧ (∀ a, win0_6.index t a = 0) ∧ (∀ a, win0_7.index t a = 0) ∧ (∀ a, win0_8.index t a = 0) ∧ (∀ a, win0_9.index t a = 0) :=
  (by decide +kernel : ∀ t : Fin grid0.N, _)

/-- A block at index zero starts at offset zero. -/
theorem start_zero {n : Nat} {index size : Fin n → Nat} (h : ∀ a, index a = 0) : (fun a => index a * size a) = fun _ => 0 :=
  funext fun a => by rw [h a, Nat.zero_mul]

/-- A block at offset zero of the array's own size lies inside the array. -/
theorem start_inside {n : Nat} {off size : Fin n → Nat} (h : off = fun _ => 0) (a : Fin n) : off a + size a ≤ size a := by
  rw [h]; exact Nat.le_of_eq (Nat.zero_add _)

/-- There are two points. -/
theorem point_lt (t : Fin cfg0.N) : t.val < 2 := t.isLt.trans_eq N_0

/-- Row `i` of block `t`, as a row of the whole array. -/
abbrev row (t : Fin cfg0.N) (i : Fin 4096) : Fin 8192 := ⟨t.val * 4096 + i.val, by have := point_lt t; omega⟩

/-- Row `i` of block `t` of the features is row `t · 4096 + i` of the array. -/
theorem x_block (c : Dev nD) (t : Fin cfg0.N) (i : Fin 4096) (l : Fin 128) :
    (iblk m c 0 t : Vec Ideal S4096x128 .f32) (ix2 i l) = (m ((c : Thread nD τ).loc main_arg0) : Vec Ideal S8192x128 .f32) (ix2 (row t i) l) := by
  obtain ⟨h0, h1, -⟩ := row_blocks t
  unfold iblk
  rw [View.read_apply]
  refine congrArg (m ((c : Thread nD τ).loc main_arg0)) (funext fun a => Fin.ext ?_)
  match a with
  | ⟨0, _⟩ => show win0_0.index t 0 * 4096 + 1 * i.val = t.val * 4096 + i.val; rw [h0]; omega
  | ⟨1, _⟩ => show win0_0.index t 1 * 128 + 1 * l.val = l.val; rw [h1]; omega

/-- So for the node counts. -/
theorem nc_block (c : Dev nD) (t : Fin cfg0.N) (i : Fin 4096) :
    (iblk m c 1 t : Vec Ideal S4096 .f32) (ix1 i) = (m ((c : Thread nD τ).loc main_arg3) : Vec Ideal S8192 .f32) (ix1 (row t i)) := by
  obtain ⟨-, -, h, -⟩ := row_blocks t
  unfold iblk
  rw [View.read_apply]
  refine congrArg (m ((c : Thread nD τ).loc main_arg3)) (funext fun a => Fin.ext ?_)
  match a with
  | ⟨0, _⟩ => show win0_1.index t 0 * 4096 + 1 * i.val = t.val * 4096 + i.val; rw [h]; omega

/-- The block of the first weights is the whole array. -/
theorem w1_block (c : Dev nD) (t : Fin cfg0.N) : (iblk m c 2 t : Vec Ideal S128x128 .f32) = m ((c : Thread nD τ).loc main_arg7) :=
  have h := start_zero (whole_blocks t).1
  Memref.read_access_unit_zero (Elt Ideal) main_arg7 h (start_inside h) _

/-- The block of the first bias is the whole array. -/
theorem b1_block (c : Dev nD) (t : Fin cfg0.N) : (iblk m c 3 t : Vec Ideal S128 .f32) = m ((c : Thread nD τ).loc main_arg8) :=
  have h := start_zero (whole_blocks t).2.1
  Memref.read_access_unit_zero (Elt Ideal) main_arg8 h (start_inside h) _

/-- The block of the second weights is the whole array. -/
theorem w2_block (c : Dev nD) (t : Fin cfg0.N) : (iblk m c 4 t : Vec Ideal S128x128 .f32) = m ((c : Thread nD τ).loc main_arg9) :=
  have h := start_zero (whole_blocks t).2.2.1
  Memref.read_access_unit_zero (Elt Ideal) main_arg9 h (start_inside h) _

/-- The block of the second bias is the whole array. -/
theorem b2_block (c : Dev nD) (t : Fin cfg0.N) : (iblk m c 5 t : Vec Ideal S128 .f32) = m ((c : Thread nD τ).loc main_arg10) :=
  have h := start_zero (whole_blocks t).2.2.2.1
  Memref.read_access_unit_zero (Elt Ideal) main_arg10 h (start_inside h) _

/-- The block of the attention vector is the whole array. -/
theorem q_block (c : Dev nD) (t : Fin cfg0.N) : (iblk m c 6 t : Vec Ideal S128x1 .f32) = m ((c : Thread nD τ).loc main_arg11) :=
  have h := start_zero (whole_blocks t).2.2.2.2.1
  Memref.read_access_unit_zero (Elt Ideal) main_arg11 h (start_inside h) _

/-- The block of the attention bias is the whole array. -/
theorem qb_block (c : Dev nD) (t : Fin cfg0.N) : (iblk m c 7 t : Vec Ideal S1 .f32) = m ((c : Thread nD τ).loc main_arg12) :=
  have h := start_zero (whole_blocks t).2.2.2.2.2.1
  Memref.read_access_unit_zero (Elt Ideal) main_arg12 h (start_inside h) _

/-- The block of the last weights is the whole array. -/
theorem w3_block (c : Dev nD) (t : Fin cfg0.N) : (iblk m c 8 t : Vec Ideal S256x128 .f32) = m ((c : Thread nD τ).loc main_arg13) :=
  have h := start_zero (whole_blocks t).2.2.2.2.2.2.1
  Memref.read_access_unit_zero (Elt Ideal) main_arg13 h (start_inside h) _

/-- The block of the last bias is the whole array. -/
theorem b3_block (c : Dev nD) (t : Fin cfg0.N) : (iblk m c 9 t : Vec Ideal S128 .f32) = m ((c : Thread nD τ).loc main_arg14) :=
  have h := start_zero (whole_blocks t).2.2.2.2.2.2.2
  Memref.read_access_unit_zero (Elt Ideal) main_arg14 h (start_inside h) _

/-! ## The array after the run -/

/-- Entry `(i, j)` of the block that point `t` leaves is the result's entry in row `i` of block `t`. -/
theorem left_eq (c : Dev nD) (t : Fin cfg0.N) (i : Fin 4096) (j : Fin 128) :
    out0_10 (F := Ideal) (iblk m c 0 t) (iblk m c 1 t) (iblk m c 2 t) (iblk m c 3 t) (iblk m c 4 t) (iblk m c 5 t) (iblk m c 6 t) (iblk m c 7 t)
      (iblk m c 8 t) (iblk m c 9 t) (ix2 i j) = (value m c : Vec Ideal S8192x128 .f32) (ix2 (row t i) j) := by
  rw [BlockValue.block_eq, nc_block, w1_block, b1_block, w2_block, b2_block, q_block, qb_block, w3_block, b3_block,
    show (fun l => (iblk m c 0 t : Vec Ideal S4096x128 .f32) (ix2 i l)) = _ from funext fun l => x_block m c t i l]
  rfl

/-- The sizes of the blocks of the result. -/
theorem block_sizes : ∀ t : Fin cfg0.N, win0_10.size (0 : Fin 2) = 4096 ∧ win0_10.size (1 : Fin 2) = 128
    ∧ win0_10.xsize (grid0.coords t) (0 : Fin 2) = 4096 ∧ win0_10.xsize (grid0.coords t) (1 : Fin 2) = 128 :=
  (by decide +kernel : ∀ t : Fin grid0.N, _)

/-- What point `t` writes back is block `t` of the result. -/
theorem written_eq (c : Dev nD) (t : Fin cfg0.N) :
    (dats m 0 c).flushed 10 t = ((cfg0.win 10).blk t).view.read (Elt Ideal) (value m c) := by
  rw [flushed10]
  obtain ⟨-, -, -, h0, h1⟩ := row_blocks t
  funext y
  obtain ⟨-, -, x0, x1⟩ := block_sizes t
  have r0 : (y (0 : Fin 2)).val < 4096 := lt_of_lt_of_eq (y (0 : Fin 2)).isLt x0
  have r1 : (y (1 : Fin 2)).val < 128 := lt_of_lt_of_eq (y (1 : Fin 2)).isLt x1
  rw [View.read_apply]
  refine Eq.trans (congrArg (out0_10 (F := Ideal) _ _ _ _ _ _ _ _ _ _) (?_ : _ = ix2 (⟨_, r0⟩ : Fin 4096) (⟨_, r1⟩ : Fin 128))) ((left_eq m c t _ _).trans
    (congrArg (value m c) (funext fun a => Fin.ext ?_)))
  · exact funext fun a => Fin.ext (by match a with | ⟨0, _⟩ => rfl | ⟨1, _⟩ => rfl)
  · match a with
    | ⟨0, _⟩ => show t.val * 4096 + _ = win0_10.index t 0 * 4096 + 1 * _; rw [h0, Nat.one_mul]; rfl
    | ⟨1, _⟩ => show _ = win0_10.index t 1 * 128 + 1 * _; rw [h1, Nat.zero_mul, Nat.zero_add, Nat.one_mul]; rfl

/-- An entry of the result lies in point `t`'s block exactly if its row does. -/
theorem mem_block (t : Fin cfg0.N) (i : S8192x128.Idx) :
    i ∈ ((cfg0.win 10).blk t).view.set ↔ ∀ a : Fin 2, win0_10.index t a * win0_10.size a ≤ (i a).val
      ∧ (i a).val < win0_10.index t a * win0_10.size a + win0_10.xsize (grid0.coords t) a := by
  show i ∈ ((View.whole main_v0).slice (win0_10.rect t)).set ↔ _
  rw [View.set_slice_whole, Rect.mem_set_unit]
  exact Iff.rfl

/-- The two blocks cover the result. -/
theorem cover (i : S8192x128.Idx) : ∃ t : Fin cfg0.N, (cfg0.win 10).flush t = true ∧ i ∈ ((cfg0.win 10).blk t).view.set := by
  have r0 : (i 0).val < 8192 := (i 0).isLt
  have r1 : (i 1).val < 128 := (i 1).isLt
  have ht : (i 0).val / 4096 < cfg0.N := lt_of_lt_of_eq (by omega : _ < 2) N_0.symm
  refine ⟨⟨(i 0).val / 4096, ht⟩, flush0_10 _, ?_⟩
  obtain ⟨-, -, -, h0, h1⟩ := row_blocks ⟨(i 0).val / 4096, ht⟩
  obtain ⟨s0, s1, x0, x1⟩ := block_sizes ⟨(i 0).val / 4096, ht⟩
  rw [mem_block]
  intro a
  match a with
  | ⟨0, _⟩ =>
    show win0_10.index _ (0 : Fin 2) * win0_10.size (0 : Fin 2) ≤ (i 0).val ∧ (i 0).val < win0_10.index _ (0 : Fin 2) * win0_10.size (0 : Fin 2) + win0_10.xsize _ (0 : Fin 2)
    rw [h0, s0, x0]
    dsimp only
    omega
  | ⟨1, _⟩ =>
    show win0_10.index _ (1 : Fin 2) * win0_10.size (1 : Fin 2) ≤ (i 1).val ∧ (i 1).val < win0_10.index _ (1 : Fin 2) * win0_10.size (1 : Fin 2) + win0_10.xsize _ (1 : Fin 2)
    rw [h1, s1, x1]
    omega

/-- After the run the result array is `value`. -/
theorem final_eq (c : Dev nD) : (dats m 0 c).arrAt 10 cfg0.N = value m c :=
  (dats m 0 c).arrAt_eq_of_cover 10 (value m c) (fun t _ => written_eq m c t) cover

end Cert.KernelValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Inputs
public import proofs.«01_k».proof.Proof.RefValue
public import proofs.«01_k».proof.Proof.KernelValue
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.ValueIdx Cert.RowMath

attribute [local instance] Cert.Kernel.Gen.facts Cert.KernelIdeal.Gen.facts Cert.ReferenceIdeal.Gen.facts Cert.Inputs.facts

/-- The kernel runs to its end, leaves its arguments as they were and every semaphore at zero. -/
theorem frame_kernel : Cert.quiescent_Kernel := fun m g _ => Cert.Kernel.Gen.frame m g

/-- So does its idealization. -/
theorem frame_ideal : Cert.quiescent_KernelIdeal := fun m g _ => Cert.KernelIdeal.Gen.frame m g

/-- The reference runs to its end and leaves its arguments as they were; it has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- Where the precondition holds, the reference's result array of the kernel's arguments is the kernel's result array: entry by entry the
    two rows agree. -/
theorem results_agree (m : (ℓ : Loc Cert.KernelIdeal.nD Cert.KernelIdeal.τ Cert.KernelIdeal.sig) → Buf (Elt Ideal) ℓ)
    (hpre : Cert.Pre_KernelIdeal_unit_sections_finite m) (c : Dev Cert.KernelIdeal.nD) :
    Cert.ReferenceIdeal.Read.val_main_v53 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      = Cert.KernelValue.value m c := by
  have k := Cert.Inputs.known (hpre c)
  funext i
  obtain ⟨a, b, rfl⟩ : ∃ (a : Fin 8192) (b : Fin 128), i = ix2 a b := ⟨i 0, i 1, eq_ix2 i⟩
  exact (Cert.RefValue.result_eq _ _ _ _ _ _ _ _ _ _ k.lengths a b).trans
    (kernelRow_eq _ _ _ _ (fun _ => k.features _) (k.counts _) (fun _ _ => k.first _) (fun _ _ => k.second _) (fun _ => k.vector _) (k.bias _)
      (fun l => k.lower l b)).symm

/-- Over the extended reals the kernel and the reference, from memories that agree on the arguments and meet the precondition, end with
    equal results. -/
theorem algebraic : Cert.algebraic_KernelIdeal_ReferenceIdeal_pre_unit_sections_finite := by
  intro m g m' g' hpre hagree
  refine ⟨Cert.KernelValue.value m,
    (θ_run Cert.KernelIdeal.defs _ _).mono (fun r h c => ⟨(h c).1.trans (Cert.KernelValue.final_eq m c), (h c).2⟩)
      (Cert.KernelIdeal.Value.run_blocks m g),
    (θ_run Cert.ReferenceIdeal.defs _ _).mono (fun r h c => ⟨(h c).1.trans ?_, (h c).2⟩) (Cert.ReferenceIdeal.Value.run m' g')⟩
  obtain ⟨e0, -, e2, e3, -, -, -, e7, e8, e9, e10, e11, e12, e13, e14⟩ := hagree c
  rw [← results_agree m hpre c, ← e0, ← e2, ← e3, ← e7, ← e8, ← e9, ← e10, ← e11, ← e12, ← e13, ← e14]
  exact Cert.ReferenceIdeal.Read.val_main_v53_eq (StableHlo.launchContents m' c)

/-- Every claim of the certificate holds. -/
theorem claim : Cert.Claim :=
  ⟨Cert.Kernel.Gen.facts, Cert.KernelIdeal.Gen.facts, Cert.ReferenceIdeal.Gen.facts, Cert.Inputs.facts,
    frame_kernel, frame_ideal, fun m g _ => frame_ideal m g trivial, frame_reference, fun m g _ => frame_reference m g trivial, trivial, algebraic⟩

end Cert.Proof

end
